-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_inputs_KernelIdeal [hPre_finite_scores_inputs_KernelIdeal : Cert.Pre_finite_scores_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_inputs_ReferenceIdeal [hPre_finite_scores_inputs_ReferenceIdeal : Cert.Pre_finite_scores_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_inputs_KernelIdeal [hKernelIdeal : Cert.KernelIdeal.Facts] [hPre_finite_scores_inputs_KernelIdeal : Cert.Pre_finite_scores_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_inputs_ReferenceIdeal [hReferenceIdeal : Cert.ReferenceIdeal.Facts] [hPre_finite_scores_inputs_ReferenceIdeal : Cert.Pre_finite_scores_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_inputs_KernelIdeal [hKernelIdeal : Cert.KernelIdeal.Facts] [hReferenceIdeal : Cert.ReferenceIdeal.Facts] [hPre_finite_scores_inputs_KernelIdeal : Cert.Pre_finite_scores_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_inputs_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 512, 512]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 512, 512]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_inputs_KernelIdeal : Cert.Pre_finite_scores_inputs_KernelIdeal.Facts) (hPre_finite_scores_inputs_ReferenceIdeal : Cert.Pre_finite_scores_inputs_ReferenceIdeal.Facts),
    quiescent_Kernel (hKernel := hKernel)
    ∧ quiescent_KernelIdeal (hKernelIdeal := hKernelIdeal)
    ∧ quiescent_KernelIdeal_pre_finite_scores_inputs_KernelIdeal (hKernelIdeal := hKernelIdeal) (hPre_finite_scores_inputs_KernelIdeal := hPre_finite_scores_inputs_KernelIdeal)
    ∧ quiescent_ReferenceIdeal (hReferenceIdeal := hReferenceIdeal)
    ∧ quiescent_ReferenceIdeal_pre_finite_scores_inputs_ReferenceIdeal (hReferenceIdeal := hReferenceIdeal) (hPre_finite_scores_inputs_ReferenceIdeal := hPre_finite_scores_inputs_ReferenceIdeal)
    ∧ preserves_Kernel_KernelIdeal
    ∧ algebraic_KernelIdeal_ReferenceIdeal_pre_finite_scores_inputs_KernelIdeal (hKernelIdeal := hKernelIdeal) (hReferenceIdeal := hReferenceIdeal) (hPre_finite_scores_inputs_KernelIdeal := hPre_finite_scores_inputs_KernelIdeal)
-- ==== Pre_finite_scores_inputs_KernelIdeal.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x16x64 : S_.BroadcastsInDim S2x128x16x64 (![] : Fin 0 → Fin S2x128x16x64.rank)
  reducesTo_S2x128x16x64_S_d0_1_2_3 : S2x128x16x64.ReducesTo [0, 1, 2, 3] S_

variable [Facts]

def fn {F : FTy → Type} [FloatOps F] (main_arg0 : FVec F S2x128x512 .bf16) (main_arg1 : FVec F S512x256 .bf16) (main_arg2 : FVec F S2x128x16x64 .bf16) (main_arg3 : FVec F S2x128x16x64 .bf16) (main_arg4 : FVec F S256x512 .bf16) : IVec S_ 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_c : IVec S_ 1 := constantI S_ 1 1#1
  let main_v4 : IVec S_ 1 := (fun x v => Host.reduce IntOp.andi x v reducesTo_S2x128x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v4 main_v9
  let main_v11 : FVec F S2x128x16x64 .f32 := (extf .f32 · bitsLt_bf16_f32) main_arg2
  let main_v12 : FVec F S2x128x16x64 .f32 := Host.absf main_v11
  let main_cst_2 : FVec F S_ .f32 := constant S_ .f32 0x7F800000#32
  let main_v13 : FVec F S2x128x16x64 .f32 := broadcastInDim S2x128x16x64 ![] bcast_S_S2x128x16x64 main_cst_2
  let main_v14 : IVec S2x128x16x64 1 := cmpf .olt main_v12 main_v13
  let main_c_3 : IVec S_ 1 := constantI S_ 1 1#1
  let main_v15 : IVec S_ 1 := (fun x v => Host.reduce IntOp.andi x v reducesTo_S2x128x16x64_S_d0_1_2_3 h_S_) main_v14 main_c_3
  let main_v16 : IVec S_ 1 := andi main_v10 main_v15
  main_v16
-- ==== Pre_finite_scores_inputs_ReferenceIdeal.lean ====
abbrev S2x512x512 : Shape := ⟨3, ![2, 512, 512]⟩
abbrev S512x1024 : Shape := ⟨2, ![512, 1024]⟩
abbrev S2x128x16x64 : Shape := ⟨4, ![2, 128, 16, 64]⟩
abbrev S1024x512 : Shape := ⟨2, ![1024, 512]⟩
abbrev S_ : Shape := ⟨0, ![]⟩

class Facts : Prop where
  bitsLt_bf16_f32 : FTy.bits .bf16 < FTy.bits .f32
  bcast_S_S2x512x512 : S_.BroadcastsInDim S2x512x512 (![] : Fin 0 → Fin S2x512x512.rank)
  reducesTo_S2x512x512_S_d0_1_2 : S2x512x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S2x128x16x64 : S_.BroadcastsInDim S2x128x16x64 (![] : Fin 0 → Fin S2x128x16x64.rank)
  reducesTo_S2x128x16x64_S_d0_1_2_3 : S2x128x16x64.ReducesTo [0, 1, 2, 3] S_

variable [Facts]

def fn {F : FTy → Type} [FloatOps F] (main_arg0 : FVec F S2x512x512 .bf16) (main_arg1 : FVec F S512x1024 .bf16) (main_arg2 : FVec F S2x128x16x64 .bf16) (main_arg3 : FVec F S2x128x16x64 .bf16) (main_arg4 : FVec F S1024x512 .bf16) : IVec S_ 1 :=
  let main_v0 : FVec F S2x512x512 .f32 := (extf .f32 · bitsLt_bf16_f32) main_arg0
  let main_v1 : FVec F S2x512x512 .f32 := Host.absf main_v0
  let main_cst : FVec F S_ .f32 := constant S_ .f32 0x7F800000#32
  let main_v2 : FVec F S2x512x512 .f32 := broadcastInDim S2x512x512 ![] bcast_S_S2x512x512 main_cst
  let main_v3 : IVec S2x512x512 1 := cmpf .olt main_v1 main_v2
  let main_c : IVec S_ 1 := constantI S_ 1 1#1
  let main_v4 : IVec S_ 1 := (fun x v => Host.reduce IntOp.andi x v reducesTo_S2x512x512_S_d0_1_2 h_S_) main_v3 main_c
  let main_v5 : FVec F S512x1024 .f32 := (extf .f32 · bitsLt_bf16_f32) main_arg1
  let main_v6 : FVec F S512x1024 .f32 := Host.absf main_v5
  let main_cst_0 : FVec F S_ .f32 := constant S_ .f32 0x7F800000#32
  let main_v7 : FVec F S512x1024 .f32 := broadcastInDim S512x1024 ![] bcast_S_S512x1024 main_cst_0
  let main_v8 : IVec S512x1024 1 := cmpf .olt main_v6 main_v7
  let main_c_1 : IVec S_ 1 := constantI S_ 1 1#1
  let main_v9 : IVec S_ 1 := (fun x v => Host.reduce IntOp.andi x v reducesTo_S512x1024_S_d0_1 h_S_) main_v8 main_c_1
  let main_v10 : IVec S_ 1 := andi main_v4 main_v9
  let main_v11 : FVec F S2x128x16x64 .f32 := (extf .f32 · bitsLt_bf16_f32) main_arg2
  let main_v12 : FVec F S2x128x16x64 .f32 := Host.absf main_v11
  let main_cst_2 : FVec F S_ .f32 := constant S_ .f32 0x7F800000#32
  let main_v13 : FVec F S2x128x16x64 .f32 := broadcastInDim S2x128x16x64 ![] bcast_S_S2x128x16x64 main_cst_2
  let main_v14 : IVec S2x128x16x64 1 := cmpf .olt main_v12 main_v13
  let main_c_3 : IVec S_ 1 := constantI S_ 1 1#1
  let main_v15 : IVec S_ 1 := (fun x v => Host.reduce IntOp.andi x v reducesTo_S2x128x16x64_S_d0_1_2_3 h_S_) main_v14 main_c_3
  let main_v16 : IVec S_ 1 := andi main_v10 main_v15
  main_v16
-- ==== Kernel.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S4x512x256 : Shape := ⟨3, ![4, 512, 256]⟩
abbrev S4x256x512 : Shape := ⟨3, ![4, 256, 512]⟩
abbrev S2x4x512x256 : Shape := ⟨4, ![2, 4, 512, 256]⟩
abbrev S4 : Shape := ⟨1, ![4]⟩
abbrev S_ : Shape := ⟨0, ![]⟩
abbrev S1 : Shape := ⟨1, ![1]⟩
abbrev S1x512x256 : Shape := ⟨3, ![1, 512, 256]⟩
abbrev S1x256x512 : Shape := ⟨3, ![1, 256, 512]⟩
abbrev S1x128x1x64 : Shape := ⟨4, ![1, 128, 1, 64]⟩
abbrev S128x64 : Shape := ⟨2, ![128, 64]⟩
abbrev S1x1x128x64 : Shape := ⟨4, ![1, 1, 128, 64]⟩
abbrev S128x512 : Shape := ⟨2, ![128, 512]⟩
abbrev S256x256 : Shape := ⟨2, ![256, 256]⟩
abbrev S128x256 : Shape := ⟨2, ![128, 256]⟩
abbrev S1x1x512x256 : Shape := ⟨4, ![1, 1, 512, 256]⟩
abbrev S128x4x128 : Shape := ⟨3, ![128, 4, 128]⟩
abbrev S128x4 : Shape := ⟨2, ![128, 4]⟩
abbrev S128x4x1 : Shape := ⟨3, ![128, 4, 1]⟩

abbrev nBuf : Space → Nat
  | .hbm => 6
  | .vmem => 12
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x16x64, .bf16⟩
  | .hbm, ⟨3, _⟩ => ⟨S2x128x16x64, .bf16⟩
  | .hbm, ⟨4, _⟩ => ⟨S256x512, .bf16⟩
  | .hbm, ⟨5, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x128x16x64, .bf16⟩
  | .local _ .vmem, ⟨3, _⟩ => ⟨S2x128x16x64, .bf16⟩
  | .local _ .vmem, ⟨4, _⟩ => ⟨S256x512, .bf16⟩
  | .local _ .vmem, ⟨5, _⟩ => ⟨S2x128x512, .f32⟩
  | .local _ .vmem, ⟨6, _⟩ => ⟨S512x256, .bf16⟩
  | .local _ .vmem, ⟨7, _⟩ => ⟨S256x512, .bf16⟩
  | .local _ .vmem, ⟨8, _⟩ => ⟨S4x512x256, .bf16⟩
  | .local _ .vmem, ⟨9, _⟩ => ⟨S4x256x512, .bf16⟩
  | .local _ .vmem, ⟨10, _⟩ => ⟨S2x4x512x256, .bf16⟩
  | .local _ .vmem, ⟨11, _⟩ => ⟨S2x4x512x256, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_12 : BitVec 32 := 1#32
  let v15 : BitVec 32 := Scalar.muli v9 c1_i32_12
  let v16 : BitVec 32 := Scalar.addi c0_i32_13 v15
  v16.toNat
def k0_off1 (d0 : Dev nD) (c2_i32 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c2_i32
  let c4_i32_5 : BitVec 32 := 4#32
  let v9 : BitVec 32 := Scalar.remsi v8 c4_i32_5
  ![v9.toNat]
def k0_off2 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_23 : BitVec 32 := 0#32
  let c0_i32_24 : BitVec 32 := 0#32
  ![v2.toNat, 0, 0]
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_21 : BitVec 32 := 1#32
  let v27 : BitVec 32 := Scalar.muli v9 c1_i32_21
  let v28 : BitVec 32 := Scalar.addi c0_i32_22 v27
  v28.toNat
def k0_dev5 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_25 : BitVec 32 := 1#32
  let v35 : BitVec 32 := Scalar.muli v7 c1_i32_25
  let v36 : BitVec 32 := Scalar.addi c0_i32_26 v35
  v36.toNat
def k0_off4 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  ![v5.toNat]
def k0_dev6 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_29 : BitVec 32 := 1#32
  let v43 : BitVec 32 := Scalar.muli v5 c1_i32_29
  let v44 : BitVec 32 := Scalar.addi c0_i32_30 v43
  v44.toNat
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_35 : BitVec 32 := 0#32
  let c0_i32_36 : BitVec 32 := 0#32
  ![v2.toNat, 0, 0]
def k0_dev7 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_33 : BitVec 32 := 1#32
  let v51 : BitVec 32 := Scalar.muli v9 c1_i32_33
  let v52 : BitVec 32 := Scalar.addi c0_i32_34 v51
  v52.toNat
def k0_dev8 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_37 : BitVec 32 := 1#32
  let v59 : BitVec 32 := Scalar.muli v7 c1_i32_37
  let v60 : BitVec 32 := Scalar.addi c0_i32_38 v59
  v60.toNat
def k0_dev9 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_41 : BitVec 32 := 1#32
  let v67 : BitVec 32 := Scalar.muli v5 c1_i32_41
  let v68 : BitVec 32 := Scalar.addi c0_i32_42 v67
  v68.toNat
def k0_off6 (d0 : Dev nD) : Fin 4 → Nat :=
  let c0_573 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v481 : Index := Scalar.indexCast v2
  let c0_574 : Index := 0#32
  let c0_575 : Index := 0#32
  ![0, v481.toNat, 0, 0]
def k0_off7 (d0 : Dev nD) : Fin 4 → Nat :=
  let c1_582 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v500 : Index := Scalar.indexCast v2
  let c0_583 : Index := 0#32
  let c0_584 : Index := 0#32
  ![1, v500.toNat, 0, 0]
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c0_i32_596 : BitVec 32 := 0#32
  let c0_i32_597 : BitVec 32 := 0#32
  ![v5.toNat, 0, 0]
def k0_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let v530 : Index := Scalar.indexCast v5
  let c0_600 : Index := 0#32
  let c0_601 : Index := 0#32
  ![v530.toNat, 0, 0]
def k0_off10 (d0 : Dev nD) : Fin 4 → Nat :=
  let c0_603 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let v536 : Index := Scalar.indexCast v5
  let c0_604 : Index := 0#32
  let c0_605 : Index := 0#32
  ![0, v536.toNat, 0, 0]
def k0_off11 (d0 : Dev nD) : Fin 4 → Nat :=
  let c1_612 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let v555 : Index := Scalar.indexCast v5
  let c0_613 : Index := 0#32
  let c0_614 : Index := 0#32
  ![1, v555.toNat, 0, 0]
def k0_off12 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c0_i32_623 : BitVec 32 := 0#32
  let c0_i32_624 : BitVec 32 := 0#32
  ![v5.toNat, 0, 0]
def k0_off13 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let v582 : Index := Scalar.indexCast v5
  let c0_627 : Index := 0#32
  let c0_628 : Index := 0#32
  ![v582.toNat, 0, 0]
def k0_off14 (d0 : Dev nD) (c1_i32_3 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c0_i32_632 : BitVec 32 := 0#32
  let c0_i32_633 : BitVec 32 := 0#32
  ![v7.toNat, 0, 0]
def k0_off15 (d0 : Dev nD) (c1_i32_3 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let v595 : Index := Scalar.indexCast v7
  let c0_636 : Index := 0#32
  let c0_637 : Index := 0#32
  ![v595.toNat, 0, 0]
def k0_off16 (d0 : Dev nD) (c1_i32_3 : BitVec 32) : Fin 4 → Nat :=
  let c0_639 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let v601 : Index := Scalar.indexCast v7
  let c0_640 : Index := 0#32
  let c0_641 : Index := 0#32
  ![0, v601.toNat, 0, 0]
def k0_off17 (d0 : Dev nD) (c1_i32_3 : BitVec 32) : Fin 4 → Nat :=
  let c1_648 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let v620 : Index := Scalar.indexCast v7
  let c0_649 : Index := 0#32
  let c0_650 : Index := 0#32
  ![1, v620.toNat, 0, 0]
def k0_off18 (d0 : Dev nD) (c1_i32_3 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c0_i32_659 : BitVec 32 := 0#32
  let c0_i32_660 : BitVec 32 := 0#32
  ![v7.toNat, 0, 0]
def k0_off19 (d0 : Dev nD) (c1_i32_3 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let v647 : Index := Scalar.indexCast v7
  let c0_663 : Index := 0#32
  let c0_664 : Index := 0#32
  ![v647.toNat, 0, 0]
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x16x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x16x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x512x512 : Shape := ⟨3, ![2, 512, 512]⟩
abbrev S512x1024 : Shape := ⟨2, ![512, 1024]⟩
abbrev S2x128x16x64 : Shape := ⟨4, ![2, 128, 16, 64]⟩
abbrev S1024x512 : Shape := ⟨2, ![1024, 512]⟩
abbrev S2x512x1024 : Shape := ⟨3, ![2, 512, 1024]⟩
abbrev S2x512x16x64 : Shape := ⟨4, ![2, 512, 16, 64]⟩
abbrev S512 : Shape := ⟨1, ![512]⟩
abbrev S_ : Shape := ⟨0, ![]⟩
abbrev S512x1 : Shape := ⟨2, ![512, 1]⟩
abbrev S128 : Shape := ⟨1, ![128]⟩
abbrev S1x128 : Shape := ⟨2, ![1, 128]⟩
abbrev S512x128 : Shape := ⟨2, ![512, 128]⟩
abbrev S2x16x512x128 : Shape := ⟨4, ![2, 16, 512, 128]⟩
abbrev S1x1x512x128 : Shape := ⟨4, ![1, 1, 512, 128]⟩
abbrev S2x16x512 : Shape := ⟨3, ![2, 16, 512]⟩
abbrev S2x16x512x1 : Shape := ⟨4, ![2, 16, 512, 1]⟩
abbrev S1x1x512x1 : Shape := ⟨4, ![1, 1, 512, 1]⟩
abbrev S2x16x64x512 : Shape := ⟨4, ![2, 16, 64, 512]⟩

abbrev nBuf : Space → Nat
  | .hbm => 128
  | .vmem => 0
  | .smem => 0
  | _ => 0

abbrev bufTy : (tb : Table) → Fin (tcTables nBuf tb) → BufTy
  | .hbm, ⟨0, _⟩ => ⟨S2x512x512, .bf16⟩
  | .hbm, ⟨1, _⟩ => ⟨S512x1024, .bf16⟩
  | .hbm, ⟨2, _⟩ => ⟨S2x128x16x64, .bf16⟩
  | .hbm, ⟨3, _⟩ => ⟨S2x128x16x64, .bf16⟩
  | .hbm, ⟨4, _⟩ => ⟨S1024x512, .bf16⟩
  | .hbm, ⟨5, _⟩ => ⟨S2x512x1024, .f32⟩
  | .hbm, ⟨6, _⟩ => ⟨S2x512x1024, .bf16⟩
  | .hbm, ⟨7, _⟩ => ⟨S2x512x16x64, .bf16⟩
  | .hbm, ⟨8, _⟩ => ⟨S512, .i32⟩
  | .hbm, ⟨9, _⟩ => ⟨S_, .i32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S512, .i32⟩
  | .hbm, ⟨18, _⟩ => ⟨S512, .i32⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S512, .i1⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S512x1, .i32⟩
  | .hbm, ⟨28, _⟩ => ⟨S128, .i32⟩
  | .hbm, ⟨29, _⟩ => ⟨S_, .i32⟩
  | .hbm, ⟨30, _⟩ => ⟨S_, .i32⟩
  | .hbm, ⟨31, _⟩ => ⟨S128, .i32⟩
  | .hbm, ⟨32, _⟩ => ⟨S128, .i32⟩
  | .hbm, ⟨33, _⟩ => ⟨S128, .i32⟩
  | .hbm, ⟨34, _⟩ => ⟨S_, .i32⟩
  | .hbm, ⟨35, _⟩ => ⟨S128, .i32⟩
  | .hbm, ⟨36, _⟩ => ⟨S128, .i1⟩
  | .hbm, ⟨37, _⟩ => ⟨S128, .i32⟩
  | .hbm, ⟨38, _⟩ => ⟨S128, .i32⟩
  | .hbm, ⟨39, _⟩ => ⟨S_, .i32⟩
  | .hbm, ⟨40, _⟩ => ⟨S128, .i32⟩
  | .hbm, ⟨41, _⟩ => ⟨S128, .i1⟩
  | .hbm, ⟨42, _⟩ => ⟨S128, .i1⟩
  | .hbm, ⟨43, _⟩ => ⟨S_, .i32⟩
  | .hbm, ⟨44, _⟩ => ⟨S128, .i32⟩
  | .hbm, ⟨45, _⟩ => ⟨S128, .i32⟩
  | .hbm, ⟨46, _⟩ => ⟨S128, .i32⟩
  | .hbm, ⟨47, _⟩ => ⟨S1x128, .i32⟩
  | .hbm, ⟨48, _⟩ => ⟨S512x128, .i32⟩
  | .hbm, ⟨49, _⟩ => ⟨S512x128, .i32⟩
  | .hbm, ⟨50, _⟩ => ⟨S512x128, .i1⟩
  | .hbm, ⟨51, _⟩ => ⟨S_, .i32⟩
  | .hbm, ⟨52, _⟩ => ⟨S1x128, .i32⟩
  | .hbm, ⟨53, _⟩ => ⟨S1x128, .i1⟩
  | .hbm, ⟨54, _⟩ => ⟨S512x128, .i1⟩
  | .hbm, ⟨55, _⟩ => ⟨S512x128, .i1⟩
  | .hbm, ⟨56, _⟩ => ⟨S512x128, .i32⟩
  | .hbm, ⟨57, _⟩ => ⟨S512x128, .i32⟩
  | .hbm, ⟨58, _⟩ => ⟨S512x128, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S512x128, .i32⟩
  | .hbm, ⟨66, _⟩ => ⟨S512x128, .i32⟩
  | .hbm, ⟨67, _⟩ => ⟨S_, .i32⟩
  | .hbm, ⟨68, _⟩ => ⟨S512x128, .i32⟩
  | .hbm, ⟨69, _⟩ => ⟨S512x128, .i1⟩
  | .hbm, ⟨70, _⟩ => ⟨S_, .i32⟩
  | .hbm, ⟨71, _⟩ => ⟨S512x128, .i32⟩
  | .hbm, ⟨72, _⟩ => ⟨S512x128, .i1⟩
  | .hbm, ⟨73, _⟩ => ⟨S_, .i32⟩
  | .hbm, ⟨74, _⟩ => ⟨S_, .i1⟩
  | .hbm, ⟨75, _⟩ => ⟨S512x128, .i1⟩
  | .hbm, ⟨76, _⟩ => ⟨S512x128, .i1⟩
  | .hbm, ⟨77, _⟩ => ⟨S512x128, .i1⟩
  | .hbm, ⟨78, _⟩ => ⟨S512x128, .i32⟩
  | .hbm, ⟨79, _⟩ => ⟨S512x128, .i32⟩
  | .hbm, ⟨80, _⟩ => ⟨S512x128, .i32⟩
  | .hbm, ⟨81, _⟩ => ⟨S_, .i32⟩
  | .hbm, ⟨82, _⟩ => ⟨S512x128, .i32⟩
  | .hbm, ⟨83, _⟩ => ⟨S512x128, .i1⟩
  | .hbm, ⟨84, _⟩ => ⟨S512x128, .i1⟩
  | .hbm, ⟨85, _⟩ => ⟨S2x16x512x128, .f32⟩
  | .hbm, ⟨86, _⟩ => ⟨S2x16x512x128, .bf16⟩
  | .hbm, ⟨87, _⟩ => ⟨S2x16x512x128, .f32⟩
  | .hbm, ⟨88, _⟩ => ⟨S_, .f32⟩
  | .hbm, ⟨89, _⟩ => ⟨S2x16x512x128, .f32⟩
  | .hbm, ⟨90, _⟩ => ⟨S2x16x512x128, .f32⟩
  | .hbm, ⟨91, _⟩ => ⟨S1x1x512x128, .i1⟩
  | .hbm, ⟨92, _⟩ => ⟨S_, .f32⟩
  | .hbm, ⟨93, _⟩ => ⟨S_, .f32⟩
  | .hbm, ⟨94, _⟩ => ⟨S2x16x512x128, .i1⟩
  | .hbm, ⟨95, _⟩ => ⟨S2x16x512x128, .f32⟩
  | .hbm, ⟨96, _⟩ => ⟨S2x16x512x128, .f32⟩
  | .hbm, ⟨97, _⟩ => ⟨S_, .f32⟩
  | .hbm, ⟨98, _⟩ => ⟨S2x16x512, .f32⟩
  | .hbm, ⟨99, _⟩ => ⟨S2x16x512x1, .f32⟩
  | .hbm, ⟨100, _⟩ => ⟨S2x16x512x128, .f32⟩
  | .hbm, ⟨101, _⟩ => ⟨S2x16x512x128, .f32⟩
  | .hbm, ⟨102, _⟩ => ⟨S2x16x512x128, .f32⟩
  | .hbm, ⟨103, _⟩ => ⟨S_, .i1⟩
  | .hbm, ⟨104, _⟩ => ⟨S512, .i1⟩
  | .hbm, ⟨105, _⟩ => ⟨S1x1x512x1, .i1⟩
  | .hbm, ⟨106, _⟩ => ⟨S_, .f32⟩
  | .hbm, ⟨107, _⟩ => ⟨S2x16x512, .f32⟩
  | .hbm, ⟨108, _⟩ => ⟨S2x16x512x1, .f32⟩
  | .hbm, ⟨109, _⟩ => ⟨S_, .f32⟩
  | .hbm, ⟨110, _⟩ => ⟨S_, .f32⟩
  | .hbm, ⟨111, _⟩ => ⟨S2x16x512x1, .i1⟩
  | .hbm, ⟨112, _⟩ => ⟨S2x16x512x1, .f32⟩
  | .hbm, ⟨113, _⟩ => ⟨S2x16x512x1, .f32⟩
  | .hbm, ⟨114, _⟩ => ⟨S2x16x512x128, .f32⟩
  | .hbm, ⟨115, _⟩ => ⟨S2x16x512x128, .f32⟩
  | .hbm, ⟨116, _⟩ => ⟨S1x1x512x1, .i1⟩
  | .hbm, ⟨117, _⟩ => ⟨S_, .f32⟩
  | .hbm, ⟨118, _⟩ => ⟨S_, .f32⟩
  | .hbm, ⟨119, _⟩ => ⟨S2x16x512x128, .i1⟩
  | .hbm, ⟨120, _⟩ => ⟨S2x16x512x128, .f32⟩
  | .hbm, ⟨121, _⟩ => ⟨S2x16x512x128, .f32⟩
  | .hbm, ⟨122, _⟩ => ⟨S2x128x16x64, .f32⟩
  | .hbm, ⟨123, _⟩ => ⟨S2x16x64x512, .f32⟩
  | .hbm, ⟨124, _⟩ => ⟨S2x512x16x64, .f32⟩
  | .hbm, ⟨125, _⟩ => ⟨S2x512x1024, .f32⟩
  | .hbm, ⟨126, _⟩ => ⟨S1024x512, .f32⟩
  | .hbm, ⟨127, _⟩ => ⟨S2x512x512, .f32⟩
  | _, _ => ⟨S2x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_c_2 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_v5 : Ref sig .tc := ⟨.hbm, 68, rfl⟩
abbrev main_call2_v6 : Ref sig .tc := ⟨.hbm, 69, rfl⟩
abbrev main_call2_c_2 : Ref sig .tc := ⟨.hbm, 70, rfl⟩
abbrev main_call2_v7 : Ref sig .tc := ⟨.hbm, 71, rfl⟩
abbrev main_call2_v8 : Ref sig .tc := ⟨.hbm, 72, rfl⟩
abbrev main_call2_c_3 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_v19 : Ref sig .tc := ⟨.hbm, 80, rfl⟩
abbrev main_c_3 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_cst : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_4 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v29 : Ref sig .tc := ⟨.hbm, 96, rfl⟩
abbrev main_cst_5 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_c_6 : Ref sig .tc := ⟨.hbm, 103, rfl⟩
abbrev main_v35 : Ref sig .tc := ⟨.hbm, 104, rfl⟩
abbrev main_v36 : Ref sig .tc := ⟨.hbm, 105, rfl⟩
abbrev main_cst_7 : Ref sig .tc := ⟨.hbm, 106, rfl⟩
abbrev main_v37 : Ref sig .tc := ⟨.hbm, 107, rfl⟩
abbrev main_v38 : Ref sig .tc := ⟨.hbm, 108, rfl⟩
abbrev main_cst_8 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_cst_9 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]
-- ==== Proof.Proto.lean ====
/-
# The exchange of weights between the four devices: cells, schedule, debts

Every device signals its three peers on the runtime's barrier semaphore, waits for three, and then sends its own
column block of `Wq` and its own row block of `Wo` to each peer, into the peer's slot that carries the sender's
index. This module names the cells of that exchange, the one round each of them runs, what each duty hands over,
what a device owes at launch and the order the waits are ranked by. It is generic in the reading of the floats.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option synthInstance.maxSize 4096

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline library's copy and the exchange's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The four devices: left, right and opposite neighbours -/

set_option backward.proofsInPublic true in
def lf (c : Dev nD) : Dev nD := ⟨(c.val + 3) % 4, Nat.mod_lt _ (by decide)⟩
set_option backward.proofsInPublic true in
def rt (c : Dev nD) : Dev nD := ⟨(c.val + 1) % 4, Nat.mod_lt _ (by decide)⟩
set_option backward.proofsInPublic true in
def op (c : Dev nD) : Dev nD := ⟨(c.val + 2) % 4, Nat.mod_lt _ (by decide)⟩

theorem lf_ne (c : Dev nD) : lf c ≠ c := by revert c; decide
theorem rt_ne (c : Dev nD) : rt c ≠ c := by revert c; decide
theorem op_ne (c : Dev nD) : op c ≠ c := by revert c; decide

theorem dev1_eq (c : Dev nD) : (⟨k0_dev1 c, k0_dev1_lt c⟩ : Dev nD) = lf c := Fin.ext (k0_dev1_eq c)
theorem dev2_eq (c : Dev nD) : (⟨k0_dev2 c, k0_dev2_lt c⟩ : Dev nD) = rt c := Fin.ext (k0_dev2_eq c)
theorem dev3_eq (c : Dev nD) : (⟨k0_dev3 c, k0_dev3_lt c⟩ : Dev nD) = op c := Fin.ext (k0_dev3_eq c)
theorem dev4_eq (c : Dev nD) : (⟨k0_dev4 c, k0_dev4_lt c⟩ : Dev nD) = op c := Fin.ext (k0_dev4_eq c)
theorem dev5_eq (c : Dev nD) : (⟨k0_dev5 c, k0_dev5_lt c⟩ : Dev nD) = rt c := Fin.ext (k0_dev5_eq c)
theorem dev6_eq (c : Dev nD) : (⟨k0_dev6 c, k0_dev6_lt c⟩ : Dev nD) = lf c := Fin.ext (k0_dev6_eq c)
theorem dev7_eq (c : Dev nD) : (⟨k0_dev7 c, k0_dev7_lt c⟩ : Dev nD) = op c := Fin.ext (k0_dev7_eq c)
theorem dev8_eq (c : Dev nD) : (⟨k0_dev8 c, k0_dev8_lt c⟩ : Dev nD) = rt c := Fin.ext (k0_dev8_eq c)
theorem dev9_eq (c : Dev nD) : (⟨k0_dev9 c, k0_dev9_lt c⟩ : Dev nD) = lf c := Fin.ext (k0_dev9_eq c)

theorem univ_peers (c : Dev nD) : (Finset.univ : Finset (Dev nD)) = [c, lf c, rt c, op c].toFinset := by revert c; decide
theorem nodup_peers (c : Dev nD) : [c, lf c, rt c, op c].Nodup := by revert c; decide

theorem bigSep_peers {M : Type} [URA M] (c : Dev nD) (Φ : Dev nD → sProp M) :
    bigSep Finset.univ Φ = iprop(Φ c ∗ Φ (lf c) ∗ Φ (rt c) ∗ Φ (op c)) :=
  bigSep_univ_eq_bigSepL [c, lf c, rt c, op c] (univ_peers c) (nodup_peers c) Φ

/-! ## The memrefs and the cells -/

abbrev M6 : Memref sig .tc .vmem S512x256 .bf16 := Memref.whole cc0_scratch0
abbrev M7 : Memref sig .tc .vmem S256x512 .bf16 := Memref.whole cc0_scratch1
abbrev M8 : Memref sig .tc .vmem S4x512x256 .bf16 := Memref.whole cc0_scratch2
abbrev M9 : Memref sig .tc .vmem S4x256x512 .bf16 := Memref.whole cc0_scratch3
abbrev M10 : Memref sig .tc .vmem S2x4x512x256 .bf16 := Memref.whole cc0_scratch4
abbrev M11 : Memref sig .tc .vmem S2x4x512x256 .bf16 := Memref.whole cc0_scratch5

/-- The slot for device `o`'s block of `Wq`, and of `Wo`, as a transfer addresses it. -/
abbrev slotQ (o : Dev nD) : Memref sig .tc .vmem S512x256 .bf16 :=
  (M8.slice (Rect.unit (s := S4x512x256) (k0_off3 o) S1x512x256.size (k0_off3_inb o)) (fun _ => rfl)).squeeze S512x256 squeezes_S1x512x256_S512x256
abbrev slotO (o : Dev nD) : Memref sig .tc .vmem S256x512 .bf16 :=
  (M9.slice (Rect.unit (s := S4x256x512) (k0_off5 o) S1x256x512.size (k0_off5_inb o)) (fun _ => rfl)).squeeze S256x512 squeezes_S1x256x512_S256x512

abbrev barS : Sem sig := (SemArray.scalar (sig.barrier 0 rfl) : Sems sig S_).sem

/-- The semaphore of index `o` in an array of four, as the kernel's slice reads it. -/
abbrev semAt (A : DmaSems sig S4) (o : Dev nD) : DmaSem sig :=
  ((A.slice (Rect.unit (s := S4) (k0_off2 o) S1.size (k0_off2_inb o))).squeeze S_ squeezes_S1_S_).sem

/-- A slice of a semaphore array at an offset equal to `k0_off2 o` holds the semaphore of index `o`. -/
theorem sem_at (A : DmaSems sig S4) (o : Dev nD) {off : Fin 1 → ℕ} (h : off = k0_off2 o) (hi) :
    ((A.slice (Rect.unit (s := S4) off S1.size hi)).squeeze S_ squeezes_S1_S_).sem = semAt A o := by subst h; rfl

theorem off1_rt (c : Dev nD) : k0_off1 c 1#32 = k0_off2 (rt c) := by revert c; decide +kernel
theorem off1_op (c : Dev nD) : k0_off1 c 2#32 = k0_off2 (op c) := by revert c; decide +kernel
theorem off4_lf (c : Dev nD) : k0_off4 c = k0_off2 (lf c) := by revert c; decide +kernel

theorem sem_rt (A : DmaSems sig S4) (c : Dev nD) :
    ((A.slice (Rect.unit (s := S4) (k0_off1 c 1#32) S1.size (k0_off1_inb c 0))).squeeze S_ squeezes_S1_S_).sem = semAt A (rt c) :=
  sem_at A (rt c) (off1_rt c) _
theorem sem_op (A : DmaSems sig S4) (c : Dev nD) :
    ((A.slice (Rect.unit (s := S4) (k0_off1 c 2#32) S1.size (k0_off1_inb c 1))).squeeze S_ squeezes_S1_S_).sem = semAt A (op c) :=
  sem_at A (op c) (off1_op c) _
theorem sem_lf (A : DmaSems sig S4) (c : Dev nD) :
    ((A.slice (Rect.unit (s := S4) (k0_off4 c) S1.size (k0_off4_inb c))).squeeze S_ squeezes_S1_S_).sem = semAt A (lf c) :=
  sem_at A (lf c) (off4_lf c) _

/-- A transfer semaphore's key: the peer's index, whether it counts arrivals, whether it is `Wo`'s. -/
abbrev Key : Type := Dev nD × Bool × Bool
abbrev CKey : Type := Unit ⊕ Key

def arr : Bool → Bool → DmaSems sig S4
  | false, false => cc0_scratch6
  | true, false => cc0_scratch7
  | false, true => cc0_scratch8
  | true, true => cc0_scratch9

def osem (k : Key) : SemLoc sig := .dma (semAt (arr k.2.1 k.2.2) k.1)
def csem : CKey → SemLoc sig
  | .inl _ => .reg barS
  | .inr k => osem k

theorem osem_injective : Function.Injective osem := by
  have h : ∀ k k' : Key, osem k = osem k' → k = k' := by decide +kernel
  exact fun k k' => h k k'
theorem csem_injective : Function.Injective csem := by
  rintro (⟨⟩ | k) (⟨⟩ | k') h
  · rfl
  · exact absurd h (fun h' => by simp [csem, osem] at h')
  · exact absurd h (fun h' => by simp [csem, osem] at h')
  · rw [osem_injective h]

abbrev kcell (ck : Dev nD × CKey) : GSem nD τ sig := ((ck.1 : Thread nD τ), csem ck.2)
abbrev barCell (c : Dev nD) : GSem nD τ sig := kcell (c, .inl ())
/-- On device `c`, the cell of key `(d, r, w)`. -/
abbrev xCell (c d : Dev nD) (r w : Bool) : GSem nD τ sig := kcell (c, .inr (d, r, w))

theorem kcell_injective : Function.Injective (kcell : Dev nD × CKey → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The key a semaphore of a TensorCore stands for. -/
def dec (s : SemLoc sig) : CKey := Function.invFun csem s
theorem dec_csem (k : CKey) : dec (csem k) = k := Function.leftInverse_invFun csem_injective k

abbrev Nw (w : Bool) : ℕ := bif w then (slotO 0).view.dmaCredit else (slotQ 0).view.dmaCredit
theorem Nw_pos (w : Bool) : 0 < Nw w := by
  cases w
  · exact View.dmaCredit_pos _ (by decide)
  · exact View.dmaCredit_pos _ (by decide)

/-! ## Contents -/

/-- Device `c`'s block of `Wq`, and of `Wo`, as launched. -/
def stgQ (c : Dev nD) : (cc0_stg1_0 : Ref sig .tc).ty.Contents (Elt F) :=
  (win0_1.blk (0 : Fin 1)).view.read (Elt F) ((s₀ m ρ).mem ((c : Thread nD τ).loc main_arg1))
def stgO (c : Dev nD) : (cc0_stg4_0 : Ref sig .tc).ty.Contents (Elt F) :=
  (win0_4.blk (0 : Fin 1)).view.read (Elt F) ((s₀ m ρ).mem ((c : Thread nD τ).loc main_arg4))
/-- What device `c` sends: the copies it keeps of its two blocks. -/
def qB (c : Dev nD) : (cc0_scratch0 : Ref sig .tc).ty.Contents (Elt F) := k0_pay2 (stgQ m ρ c)
def oB (c : Dev nD) : (cc0_scratch1 : Ref sig .tc).ty.Contents (Elt F) := k0_pay3 (stgO m ρ c)

/-! ## The shares a sender lends: one quarter per peer, one kept -/

def shr (c d : Dev nD) : PosShare TreeShare :=
  if d = c then fullShare.left.left else if d = lf c then fullShare.left.right
    else if d = rt c then fullShare.right.left else fullShare.right.right

theorem shr_self (c : Dev nD) : shr c c = fullShare.left.left := if_pos rfl
theorem shr_lf (c : Dev nD) : shr c (lf c) = fullShare.left.right := by
  unfold shr; rw [if_neg (lf_ne c), if_pos rfl]
theorem shr_rt (c : Dev nD) : shr c (rt c) = fullShare.right.left := by
  unfold shr; rw [if_neg (rt_ne c), if_neg (by revert c; decide), if_pos rfl]
theorem shr_op (c : Dev nD) : shr c (op c) = fullShare.right.right := by
  unfold shr; rw [if_neg (op_ne c), if_neg (by revert c; decide), if_neg (by revert c; decide)]

theorem pts_split (c : Dev nD) (ℓ : Loc nD τ sig) (S : Finset (Idx ℓ)) (f : Buf (Elt F) ℓ) :
    (ℓ ↦[S]{fullShare} f : sProp 𝕄) ⊢ iprop((ℓ ↦[S]{shr c c} f) ∗ (ℓ ↦[S]{shr c (lf c)} f) ∗ (ℓ ↦[S]{shr c (rt c)} f) ∗ (ℓ ↦[S]{shr c (op c)} f)) := by
  rw [shr_self, shr_lf, shr_rt, shr_op]
  iintro H
  ihave H := (pointsTo_share (PosShare.mem_left_op_right fullShare)).1 $$ H
  icases H with ⟨H1, H2⟩
  ihave H1 := (pointsTo_share (PosShare.mem_left_op_right fullShare.left)).1 $$ H1
  ihave H2 := (pointsTo_share (PosShare.mem_left_op_right fullShare.right)).1 $$ H2
  icases H1 with ⟨H1, H3⟩
  isplitl [H1]; · iexact H1
  isplitl [H3]; · iexact H3
  iexact H2
theorem pts_join (c : Dev nD) (ℓ : Loc nD τ sig) (S : Finset (Idx ℓ)) (f : Buf (Elt F) ℓ) :
    iprop((ℓ ↦[S]{shr c c} f) ∗ (ℓ ↦[S]{shr c (lf c)} f) ∗ (ℓ ↦[S]{shr c (rt c)} f) ∗ (ℓ ↦[S]{shr c (op c)} f)) ⊢ (ℓ ↦[S]{fullShare} f : sProp 𝕄) := by
  rw [shr_self, shr_lf, shr_rt, shr_op]
  iintro ⟨H1, H2, H3, H4⟩
  iapply (pointsTo_share (PosShare.mem_left_op_right fullShare)).2
  isplitl [H1 H2]
  · iapply (pointsTo_share (PosShare.mem_left_op_right fullShare.left)).2
    isplitl [H1] <;> iassumption
  · iapply (pointsTo_share (PosShare.mem_left_op_right fullShare.right)).2
    isplitl [H3] <;> iassumption

/-! ## What the duties hand over -/

/-- The lent source of a send: device `c`'s copy of its block, at the share for peer `d`. -/
def srcTok (c d : Dev nD) : Bool → sProp 𝕄
  | false => M6.view.loc (c : Thread nD τ) ↦[M6.view.set]{shr c d} qB m ρ c
  | true => M7.view.loc (c : Thread nD τ) ↦[M7.view.set]{shr c d} oB m ρ c

/-- A slot on device `c` for peer `o`, at some contents; -/
def slotAny (c o : Dev nD) : Bool → sProp 𝕄
  | false => iprop(∃ f, (slotQ o).view.loc (c : Thread nD τ) ↦[(slotQ o).view.set]{fullShare} f)
  | true => iprop(∃ f, (slotO o).view.loc (c : Thread nD τ) ↦[(slotO o).view.set]{fullShare} f)
/-- and holding what that peer sent. -/
def slotGot (c o : Dev nD) : Bool → sProp 𝕄
  | false => iprop(∃ f, ⌜(slotQ o).view.read (Elt F) f = qB m ρ o⌝ ∗ (slotQ o).view.loc (c : Thread nD τ) ↦[(slotQ o).view.set]{fullShare} f)
  | true => iprop(∃ f, ⌜(slotO o).view.read (Elt F) f = oB m ρ o⌝ ∗ (slotO o).view.loc (c : Thread nD τ) ↦[(slotO o).view.set]{fullShare} f)

/-- Device `d` signalling `c` hands `c` the two slots of index `c` on `d`. -/
def barPay (c d : Dev nD) : sProp 𝕄 := iprop(slotAny (F := F) d c false ∗ slotAny d c true)

def xPay (c d : Dev nD) : Bool → Bool → sProp 𝕄
  | false, w => srcTok m ρ c d w
  | true, w => slotGot m ρ c d w

/-- One round, round 0: a barrier cell has one duty of one unit per peer; a transfer cell with a peer's index one duty
    of the block's credit; a transfer cell with the device's own index none. -/
def exRd : Rounds.Schedule (GSem nD τ sig) (Dev nD) 𝕄 where
  duties g r := if r = 0 ∧ g.1.2 = .tc then
      (match dec g.2 with
        | .inl _ => Finset.univ.erase g.1.1
        | .inr k => if k.1 = g.1.1 then ∅ else {0})
    else ∅
  unitless _ := False
  amount g _ _ := match dec g.2 with
    | .inl _ => 1
    | .inr k => Nw k.2.2
  payload g _ d := match dec g.2 with
    | .inl _ => barPay g.1.1 d
    | .inr k => xPay m ρ g.1.1 k.1 k.2.1 k.2.2
  amount_pos g _ _ _ := by
    split
    · exact Nat.one_pos
    · exact Nw_pos _

instance srcTok_storable (c d : Dev nD) (w : Bool) : BI.Storable (upEmb : UEmb _ 𝕄) (srcTok m ρ c d w) := by
  cases w <;> dsimp only [srcTok] <;> infer_instance
instance slotAny_storable (c o : Dev nD) (w : Bool) : BI.Storable (upEmb : UEmb _ 𝕄) (slotAny (F := F) c o w) := by
  cases w <;> dsimp only [slotAny] <;> infer_instance
instance slotGot_storable (c o : Dev nD) (w : Bool) : BI.Storable (upEmb : UEmb _ 𝕄) (slotGot m ρ c o w) := by
  cases w <;> dsimp only [slotGot] <;> infer_instance
instance barPay_storable (c d : Dev nD) : BI.Storable (upEmb : UEmb _ 𝕄) (barPay (F := F) c d) := by unfold barPay; infer_instance
instance xPay_storable (c d : Dev nD) (r w : Bool) : BI.Storable (upEmb : UEmb _ 𝕄) (xPay m ρ c d r w) := by
  cases r <;> dsimp only [xPay] <;> infer_instance

instance exRd_payload_storable (g : GSem nD τ sig) (r : ℕ) (d : Dev nD) :
    BI.Storable (upEmb : UEmb _ 𝕄) ((exRd (F := F) m ρ).payload g r d) := by
  show BI.Storable upEmb (match dec g.2 with
    | .inl _ => barPay (F := F) g.1.1 d
    | .inr k => xPay m ρ g.1.1 k.1 k.2.1 k.2.2)
  split <;> infer_instance

section Sched
variable (c d : Dev nD) (r w : Bool)

theorem duties_bar : (exRd (F := F) m ρ).duties (barCell c) 0 = Finset.univ.erase c := by
  dsimp only [exRd]; rw [if_pos ⟨rfl, rfl⟩, dec_csem]
theorem duties_x (h : d ≠ c) : (exRd (F := F) m ρ).duties (xCell c d r w) 0 = {0} := by
  dsimp only [exRd]; rw [if_pos ⟨rfl, rfl⟩, dec_csem]; exact if_neg h
theorem duties_own : (exRd (F := F) m ρ).duties (xCell c c r w) 0 = ∅ := by
  dsimp only [exRd]; rw [if_pos ⟨rfl, rfl⟩, dec_csem]; exact if_pos rfl
theorem duties_later (g : GSem nD τ sig) : ∀ r, 1 ≤ r → (exRd (F := F) m ρ).duties g r = ∅ :=
  fun r hr => by dsimp only [exRd]; rw [if_neg fun h => by omega]
theorem duties_own' : ∀ R, 0 ≤ R → (exRd (F := F) m ρ).duties (xCell c c r w) R = ∅ := fun R _ => by
  rcases Nat.eq_zero_or_pos R with rfl | h
  · exact duties_own m ρ c r w
  · exact duties_later m ρ _ R h

theorem amount_bar : (exRd (F := F) m ρ).amount (barCell c) 0 d = 1 := by dsimp only [exRd]; rw [dec_csem]
theorem amount_x (e : Dev nD) : (exRd (F := F) m ρ).amount (xCell c d r w) 0 e = Nw w := by dsimp only [exRd]; rw [dec_csem]

theorem expect_bar : (exRd (F := F) m ρ).expect (barCell c) 0 = 3 := by
  unfold Schedule.expect Schedule.amountOf
  rw [duties_bar, Finset.sum_congr rfl fun d _ => amount_bar m ρ c d, Finset.sum_const, smul_eq_mul, mul_one]
  revert c; decide
theorem expect_x (h : d ≠ c) : (exRd (F := F) m ρ).expect (xCell c d r w) 0 = Nw w := by
  unfold Schedule.expect Schedule.amountOf; rw [duties_x m ρ c d r w h, Finset.sum_singleton, amount_x]

theorem payload_bar : (exRd (F := F) m ρ).payload (barCell c) 0 d = barPay c d := by dsimp only [exRd]; rw [dec_csem]
theorem payload_x (e : Dev nD) : (exRd (F := F) m ρ).payload (xCell c d r w) 0 e = xPay m ρ c d r w := by
  dsimp only [exRd]; rw [dec_csem]

theorem erase_peers : (Finset.univ : Finset (Dev nD)).erase c = [lf c, rt c, op c].toFinset := by revert c; decide
theorem nodup_peers3 : [lf c, rt c, op c].Nodup := by revert c; decide

/-- The rest of the barrier cell's round: the three peers' slots. -/
theorem rest_bar : bigSep ((exRd (F := F) m ρ).duties (barCell c) 0 \ ∅) (fun d => (exRd (F := F) m ρ).payload (barCell c) 0 d)
    = iprop(barPay c (lf c) ∗ barPay c (rt c) ∗ barPay c (op c)) := by
  rw [Finset.sdiff_empty, duties_bar, bigSep_eq_bigSepL_of_eq [lf c, rt c, op c] (erase_peers c) (nodup_peers3 c),
    bigSepL_cons_cons, bigSepL_cons_cons, bigSepL_singleton, payload_bar, payload_bar, payload_bar]
  rfl
theorem rest_x (h : d ≠ c) : bigSep ((exRd (F := F) m ρ).duties (xCell c d r w) 0 \ ∅) (fun e => (exRd (F := F) m ρ).payload (xCell c d r w) 0 e)
    = xPay m ρ c d r w := by
  rw [Finset.sdiff_empty, duties_x m ρ c d r w h, bigSep_singleton, payload_x]

end Sched

/-! ## What each core owes at launch; the levels -/

def owB (d : Dev nD) : CellTallies nD τ sig Unit := tallyAt (barCell d) () 1
/-- Device `c`'s debt to the cell on `d` that counts its block's arrival. -/
def owX (c d : Dev nD) (w : Bool) : CellTallies nD τ sig Unit := tallyAt (xCell d c true w) () (Nw w)

def O₉ (c : Dev nD) : CellTallies nD τ sig Unit := 0
def O₈ (c : Dev nD) : CellTallies nD τ sig Unit := 0 + owX c (lf c) true
def O₇ (c : Dev nD) : CellTallies nD τ sig Unit := O₈ c + owX c (rt c) true
def O₆ (c : Dev nD) : CellTallies nD τ sig Unit := O₇ c + owX c (op c) true
def O₅ (c : Dev nD) : CellTallies nD τ sig Unit := O₆ c + owX c (lf c) false
def O₄ (c : Dev nD) : CellTallies nD τ sig Unit := O₅ c + owX c (rt c) false
def O₃ (c : Dev nD) : CellTallies nD τ sig Unit := O₄ c + owX c (op c) false
def O₂ (c : Dev nD) : CellTallies nD τ sig Unit := O₃ c + owB (op c)
def O₁ (c : Dev nD) : CellTallies nD τ sig Unit := O₂ c + owB (rt c)
def O₀ (c : Dev nD) : CellTallies nD τ sig Unit := O₁ c + owB (lf c)

def L (g : GSem nD τ sig) : Finset Unit := if g.1.2 = .tc then {()} else ∅

/-- A key's rank: the barrier 1, arrivals 2, a send's completion 0. -/
def rank : CKey → ℕ
  | .inl _ => 1
  | .inr k => bif k.2.1 then 2 else 0
/-- The waits' order: the exchange's cells by `rank`, everything else (the staging cells) 0. -/
def lv (g : GSem nD τ sig) (_ : Unit) : ℕ := if csem (dec g.2) = g.2 then rank (dec g.2) else 0

theorem lv_kcell (ck : Dev nD × CKey) (u : Unit) : lv (kcell ck) u = rank ck.2 := by
  unfold lv; rw [dec_csem, if_pos rfl]
theorem lv_other (t : Thread nD τ) (s : SemLoc sig) (h : ∀ k, csem k ≠ s) (u : Unit) : lv (t, s) u = 0 :=
  if_neg (h _)

theorem L_of_ne (g : GSem nD τ sig) (h : g.1.2 ≠ .tc) : L g = ∅ := if_neg h
theorem L_tc (c : Dev nD) (sm : SemLoc sig) : L ((c : Thread nD τ), sm) = {()} := if_pos rfl

/-- Every debt in `O` is to a cell of the exchange of rank at least `n`. -/
def Above (n : ℕ) (O : CellTallies nD τ sig Unit) : Prop :=
  ∀ g u, 0 < O g u → ∃ ck : Dev nD × CKey, g = kcell ck ∧ n ≤ rank ck.2

theorem above_zero (n : ℕ) : Above n 0 := fun g u h => absurd h (Nat.lt_irrefl 0)
theorem above_add {n : ℕ} {O O' : CellTallies nD τ sig Unit} (h : Above n O) (h' : Above n O') : Above n (O + O') := fun g u hp => by
  rw [Pi.add_apply, Finsupp.add_apply] at hp
  rcases Nat.eq_zero_or_pos (O g u) with h0 | h0
  · rw [h0, Nat.zero_add] at hp; exact h' g u hp
  · exact h g u h0
theorem above_tally {n k : ℕ} (ck : Dev nD × CKey) (hk : n ≤ rank ck.2) : Above n (tallyAt (kcell ck) () k) := fun g u hp => by
  rw [tallyAt_apply] at hp
  by_cases h : g = kcell ck ∧ u = ()
  · exact ⟨ck, h.1, hk⟩
  · rw [if_neg h] at hp; exact absurd hp (Nat.lt_irrefl 0)

theorem above_O₃ (c : Dev nD) : Above 2 (O₃ c) := by
  have h (d : Dev nD) (w : Bool) : Above 2 (owX c d w) := above_tally (d, .inr (c, true, w)) le_rfl
  unfold O₃ O₄ O₅ O₆ O₇ O₈
  exact above_add (above_add (above_add (above_add (above_add (above_add (above_zero 2) (h _ _)) (h _ _)) (h _ _)) (h _ _)) (h _ _)) (h _ _)
theorem Above.mono {n k : ℕ} {O : CellTallies nD τ sig Unit} (h : Above n O) (hk : k ≤ n) : Above k O := fun g u hp => by
  obtain ⟨ck, h1, h2⟩ := h g u hp; exact ⟨ck, h1, hk.trans h2⟩
theorem above_O₀ (c : Dev nD) : Above 1 (O₀ c) := by
  have h (d : Dev nD) : Above 1 (owB d) := above_tally (d, .inl ()) le_rfl
  unfold O₀ O₁ O₂
  exact above_add (above_add (above_add ((above_O₃ c).mono (by decide)) (h _)) (h _)) (h _)

theorem mayWait_of {n : ℕ} (c : Dev nD) (s : SemLoc sig) (hs : lv ((c : Thread nD τ), s) () = n) {O : CellTallies nD τ sig Unit}
    (hO : Above (n + 1) O) : (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => by obtain ⟨ck, rfl, -⟩ := hO g u hg; rw [L_tc]; exact Finset.mem_singleton_self _)
    (fun p hp => by rw [Finset.mem_singleton.mp hp]; exact hs.le)
    (fun g u hg => by obtain ⟨ck, rfl, h⟩ := hO g u hg; rw [lv_kcell]; exact h)

theorem mayWait_bar (c : Dev nD) : (levAts L lv : sProp 𝕄) ⊢ MayWait (c : Thread nD τ) (.reg barS) () (O₃ c) :=
  mayWait_of c (csem (.inl ())) (lv_kcell (c, .inl ()) ()) (above_O₃ c)

theorem mayWait_stage (c : Dev nD) (q : DmaSem sig) (hq : ∀ k : Key, osem k ≠ .dma q) (O : CellTallies nD τ sig Unit)
    (hO : O = O₀ c ∨ O = 0) : (levAts L lv : sProp 𝕄) ⊢ MayWait (c : Thread nD τ) (.dma q) () O := by
  rcases hO with rfl | rfl
  · exact mayWait_of c _ (lv_other _ _ (by rintro (_ | k); · exact fun h => by cases h
                                           · exact hq k) ()) (above_O₀ c)
  · rw [MayWait_zero]; iintro -; iempintro

/-! ## The launch's credit -/

/-- What device `c`'s cell of key `k` is owed at launch. -/
def crd (c : Dev nD) : CKey → ℕ
  | .inl _ => 3
  | .inr (o, r, w) => if r = true ∧ o ≠ c then Nw w else 0

theorem owB_at (d c : Dev nD) (k : CKey) : owB d (kcell (c, k)) () = if k = .inl () ∧ c = d then 1 else 0 := by
  unfold owB; rw [tallyAt_apply]
  refine if_congr ⟨fun h => ?_, fun h => ?_⟩ rfl rfl
  · have := kcell_injective h.1; rw [Prod.mk.injEq] at this; exact ⟨this.2, this.1⟩
  · exact ⟨by rw [h.1, h.2], rfl⟩
theorem owX_at (e d c : Dev nD) (w : Bool) (k : CKey) :
    owX e d w (kcell (c, k)) () = if k = .inr (e, true, w) ∧ c = d then Nw w else 0 := by
  unfold owX; rw [tallyAt_apply]
  refine if_congr ⟨fun h => ?_, fun h => ?_⟩ rfl rfl
  · have := kcell_injective h.1; rw [Prod.mk.injEq] at this; exact ⟨this.2, this.1⟩
  · exact ⟨by rw [h.1, h.2], rfl⟩

theorem O₀_at (d c : Dev nD) (k : CKey) : O₀ d (kcell (c, k)) ()
    = 0 + owX d (lf d) true (kcell (c, k)) () + owX d (rt d) true (kcell (c, k)) () + owX d (op d) true (kcell (c, k)) ()
      + owX d (lf d) false (kcell (c, k)) () + owX d (rt d) false (kcell (c, k)) () + owX d (op d) false (kcell (c, k)) ()
      + owB (op d) (kcell (c, k)) () + owB (rt d) (kcell (c, k)) () + owB (lf d) (kcell (c, k)) () := by
  unfold O₀ O₁ O₂ O₃ O₄ O₅ O₆ O₇ O₈
  simp only [Pi.add_apply, Finsupp.add_apply]
  rfl

theorem owed_sum (c : Dev nD) (k : CKey) : ∑ d : Dev nD, O₀ d (kcell (c, k)) () = crd c k := by
  simp only [O₀_at, owX_at, owB_at]
  generalize hQ : Nw false = NQ
  generalize hO : Nw true = NO
  rw [Fin.sum_univ_four]
  rcases k with ⟨⟩ | ⟨o, r, w⟩
  · fin_cases c <;> simp (decide := true) only [crd, reduceCtorEq, false_and, true_and, if_true, if_false]
  · cases r <;> cases w <;> simp only [crd, hQ, hO] <;> fin_cases o <;> fin_cases c <;> simp (decide := true) only [if_true, if_false, Nat.zero_add, Nat.add_zero]

theorem launch_at (c : Dev nD) (k : CKey) :
    tallyOn (kcell (c, k)) (launchCredit (Pipeline.owing O₀) 0 (kcell (c, k))) = (tallyAt (kcell (c, k)) () (crd c k) : CellTallies nD τ sig Unit) := by
  unfold tallyAt; refine congrArg _ (Finsupp.ext fun u => ?_); cases u
  rw [Pipeline.launchCredit_owing, Finsupp.single_eq_same, owed_sum]

theorem creds (c : Dev nD) :
    (Pipeline.launchCred O₀ c : sProp 𝕄) ⊢ bigSep Finset.univ fun k : CKey => cred (tallyAt (kcell (c, k)) () (crd c k)) := by
  unfold Pipeline.launchCred
  refine (bigSep_subset (Finset.subset_univ (Finset.univ.map ⟨csem, csem_injective⟩))).trans ?_
  rw [bigSep_map]
  exact bigSep_mono fun k _ => by rw [← launch_at]; exact BI.Entails.refl _

end Cert.KernelIdealRun

end
-- ==== Proof.Ops.lean ====
/-
# One rule per effect of the exchange, over the records all devices share

The invariants of all cells and the marks that every cell has reached round 0 are kept as one persistent bundle
(`records`); a signal, a send, a wait that also closes its cell, the split of a slot buffer into one window per peer
and the load of a slot that has been filled are each one lemma here.
-/
module

public import proofs.«01_k».proof.Proof.Proto
public import Idealize.ShloMosaic.Lib.Pipeline.Value

@[expose] public section

set_option synthInstance.maxSize 4096

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

/-- The body's programs on device `c`, run to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A program that has ended, at a value known by another name. -/
theorem wp_end (c : Dev nD) {α : Type} {a a' : α} (h : a = a') {Q : α → sProp 𝕄} : Q a' ⊢ WP c (.ret a) Q := by
  subst h
  unfold WP
  rw [wp_ret]
  iintro H; imodintro; iexact H

/-! ## The records -/

def records (K : Dev nD × CKey → ℕ) : sProp 𝕄 :=
  iprop((bigSep Finset.univ fun ck : Dev nD × CKey => cellInv ER (exRd m ρ) (K ck) (kcell ck))
    ∗ bigSep Finset.univ fun ck : Dev nD × CKey => reached ER (kcell ck) 0)

instance records_persistent (K : Dev nD × CKey → ℕ) : BI.Persistent (records m ρ K) := by unfold records; infer_instance

variable (K : Dev nD × CKey → ℕ)

theorem inv_at (ck : Dev nD × CKey) : records m ρ K ⊢ cellInv ER (exRd m ρ) (K ck) (kcell ck) := by
  unfold records
  iintro ⟨H, -⟩
  iapply (show (bigSep Finset.univ fun ck : Dev nD × CKey => (cellInv ER (exRd m ρ) (K ck) (kcell ck) : sProp 𝕄)) ⊢ cellInv ER (exRd m ρ) (K ck) (kcell ck) from bigSep_elim (Finset.mem_univ ck))
  iexact H
theorem reached_at (ck : Dev nD × CKey) : records m ρ K ⊢ reached ER (kcell ck) 0 := by
  unfold records
  iintro ⟨-, H⟩
  iapply (show (bigSep Finset.univ fun ck : Dev nD × CKey => (reached ER (kcell ck) 0 : sProp 𝕄)) ⊢ reached ER (kcell ck) 0 from bigSep_elim (Finset.mem_univ ck))
  iexact H

/-- What a device owes, its pending waits left open. -/
def owesE (c : Dev nD) (O : CellTallies nD τ sig Unit) : sProp 𝕄 := iprop(∃ W, owes (c : Thread nD τ) O W)

/-! ## The barrier -/

theorem wp_sig (c n p : Dev nD) (hn : n = p) (hp : p ≠ c) (O O' : CellTallies nD τ sig Unit) (hO : O = O' + owB p)
    {α : Type} {Q : α → sProp 𝕄} {k : PUnit → Prog (TpuEff nD τ sig (Elt F) Λ₀ .tc) α} :
    iprop(records m ρ K ∗ owesE c O ∗ dutyTok ER (barCell p) 0 c ∗ slotAny c p false ∗ slotAny c p true)
      ⊢ iprop((owesE c O' -∗ WP c (k ⟨⟩) Q) -∗ WP c (.op (.semSignal (Dev.tc n : Thread nD τ) barS 1) k) Q) := by
  subst hn
  unfold owesE
  iintro ⟨#HR, ⟨%W, HO⟩, Ht, HsQ, HsO⟩ Hk
  iapply (Rounds.wp_signal 𝒱₀ ER (exRd m ρ) (c : Thread nD τ) none (dst := (n : Thread nD τ)) (κ := K (n, .inl ()))
      (d := c) (by rw [show ((n : Thread nD τ), SemLoc.reg barS) = barCell n from rfl, duties_bar m ρ n]; exact Finset.mem_erase.mpr ⟨hp.symm, Finset.mem_univ _⟩)
      (amount_bar m ρ n c) () O' hO) $$ [HO Ht HsQ HsO]
  · isplitr; · iapply (inv_at m ρ K (n, .inl ())); iexact HR
    isplitl [HO]; · iexact HO
    isplitl [Ht]; · iexact Ht
    isplitl [HsQ HsO]
    · rw [show ((n : Thread nD τ), SemLoc.reg barS) = barCell n from rfl, payload_bar m ρ n c]; unfold barPay
      isplitl [HsQ] <;> iassumption
    iapply (reached_at m ρ K (n, .inl ())); iexact HR
  iintro HO
  iapply Hk
  iexists W; iexact HO

theorem wp_bar (c : Dev nD) {α : Type} {Q : α → sProp 𝕄} {k : PUnit → Prog (TpuEff nD τ sig (Elt F) Λ₀ .tc) α} :
    iprop(records m ρ K ∗ levAts L lv ∗ owesE c (O₃ c) ∗ cred (tallyAt (barCell c) () 3) ∗ atPos ER (barCell c) 0 ∅ 0)
      ⊢ iprop(((owesE c (O₃ c) ∗ semVal (barCell c) 0 ∗ barPay (F := F) c (lf c) ∗ barPay (F := F) c (rt c) ∗ barPay (F := F) c (op c)) -∗ WP c (k ⟨⟩) Q)
        -∗ WP c (.op (.semWait barS 3) k) Q) := by
  unfold owesE
  iintro ⟨#HR, #Hlev, ⟨%W, HO⟩, Hc, Hat⟩ Hk
  ihave #HI := (inv_at m ρ K (c, .inl ())) $$ HR
  iapply (Rounds.wp_wait_rest_token 𝒱₀ ER (exRd m ρ) (c : Thread nD τ) none (κ := K (c, .inl ()))
      (wpE_semWait_eq 𝒱₀ (c : Thread nD τ) none Set.univ) (Set.mem_univ _) () (O := O₃ c) (W := W) (R := 0) (m := 0) (T := ∅)
      (by rw [show ((c : Thread nD τ), SemLoc.reg barS) = barCell c from rfl, expect_bar m ρ c])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (show (bigSep ((exRd m ρ).duties ((c : Thread nD τ), SemLoc.reg barS) 0 \ ∅) fun d => (exRd m ρ).payload ((c : Thread nD τ), SemLoc.reg barS) 0 d) ⊢ _ from
    Entails.of_eq (rest_bar m ρ c)) $$ Hpay
  imod (Rounds.cell_close ER (exRd m ρ) (Set.mem_univ (K (c, .inl ()))) (fun h => h) (R := 0 + 1) (duties_later m ρ (barCell c))) $$ [Hat] with Hz
  · isplitr; · iexact HI
    iexact Hat
  iapply Hk
  isplitl [HO]; · iexists _; iexact HO
  isplitl [Hz]; · iexact Hz
  iexact Hp

/-! ## The transfers -/

theorem write_slotQ (o p : Dev nD) (fd : Buf (Elt F) ((slotQ o).view.loc (p : Thread nD τ))) (w : (cc0_scratch0 : Ref sig .tc).ty.Contents (Elt F)) :
    (slotQ o).view.read (Elt F) ((slotQ o).view.write (Elt F) fd (M6.view.read (Elt F) w) Finset.univ) = w := by
  rw [View.read_write_univ]; exact View.read_whole _ _
theorem write_slotO (o p : Dev nD) (fd : Buf (Elt F) ((slotO o).view.loc (p : Thread nD τ))) (w : (cc0_scratch1 : Ref sig .tc).ty.Contents (Elt F)) :
    (slotO o).view.read (Elt F) ((slotO o).view.write (Elt F) fd (M7.view.read (Elt F) w) Finset.univ) = w := by
  rw [View.read_write_univ]; exact View.read_whole _ _

/-- A transfer cell of device `c` whose round is still to be waited for, -/
def pend (c d : Dev nD) (r w : Bool) : sProp 𝕄 :=
  iprop(cred (tallyAt (xCell c d r w) () (Nw w)) ∗ atPos ER (xCell c d r w) 0 ∅ 0)
/-- and one that has been waited for and closed. -/
def done (c d : Dev nD) (r w : Bool) : sProp 𝕄 := iprop(semVal (xCell c d r w) 0 ∗ xPay m ρ c d r w)

/-- What device `c` holds to send its block to `p`, before `p` has opened its slot. -/
def sendRes (c p : Dev nD) (w : Bool) : sProp 𝕄 :=
  iprop(srcTok m ρ c p w ∗ dutyTok ER (xCell c p false w) 0 0 ∗ dutyTok ER (xCell p c true w) 0 0 ∗ atPos ER (xCell c p false w) 0 ∅ 0)

theorem wp_sendQ (c n p : Dev nD) (hn : n = p) (hp : p ≠ c) {sS rS : DmaSem sig} (hsS : sS = semAt cc0_scratch6 p) (hrS : rS = semAt cc0_scratch7 c)
    {hsc : (slotQ c : Memref sig (Dev.tc n : Thread nD τ).2.kind .vmem S512x256 .bf16).view.ref.isScScratch = false}
    {hsrc : (M6 : Memref sig .tc .vmem S512x256 .bf16).view.WordExact} {hdst : (slotQ c).view.WordExact}
    {hsem : DmaTarget.Typed .vmem (.dma rS) (.remote (Dev.tc n : Thread nD τ) (slotQ c : Memref sig .tc .vmem S512x256 .bf16) (.dma sS) hsc)}
    (O O' : CellTallies nD τ sig Unit) (hO : O = O' + owX c p false)
    {α : Type} {Q : α → sProp 𝕄} {k : PUnit → Prog (TpuEff nD τ sig (Elt F) Λ₀ .tc) α} :
    iprop(records m ρ K ∗ owesE c O ∗ sendRes m ρ c p false ∗ slotAny p c false)
      ⊢ iprop(((owesE c O' ∗ pend c p false false) -∗ WP c (k ⟨⟩) Q)
        -∗ WP c (.op (.enqueueDma M6 (.remote (Dev.tc n : Thread nD τ) (slotQ c) (.dma sS) hsc) (.dma rS) hsrc hdst hsem) k) Q) := by
  subst hn; subst hsS; subst hrS
  unfold owesE sendRes slotAny pend
  dsimp only
  iintro ⟨#HR, ⟨%W, HO⟩, ⟨Hsrc, Hts, Htr, Hat⟩, ⟨%fd, Hdst⟩⟩ Hk
  ihave Hsrc := (show srcTok m ρ c n false ⊢ (M6.view.loc (c : Thread nD τ) ↦[M6.view.set]{shr c n} qB m ρ c) from .rfl) $$ Hsrc
  iapply (Rounds.wp_send_pointsTo 𝒱₀ ER (exRd m ρ) (c : Thread nD τ) none (c' := (n : Thread nD τ)) (src := M6) (dst := slotQ c)
      (sS := .dma (semAt cc0_scratch6 n)) (sem := .dma (semAt cc0_scratch7 c))
      (κ₁ := K (c, .inr (n, false, false))) (κ₂ := K (n, .inr (c, true, false)))
      (r₁ := 0) (r₂ := 0) (d₁ := 0) (d₂ := 0) (fd := fd) (fs := qB m ρ c) (q := shr c n)
      (by rw [show ((c : Thread nD τ), SemLoc.dma (semAt cc0_scratch6 n)) = xCell c n false false from rfl, duties_x m ρ c n false false hp]; exact Finset.mem_singleton_self _)
      (by rw [show ((n : Thread nD τ), SemLoc.dma (semAt cc0_scratch7 c)) = xCell n c true false from rfl, duties_x m ρ n c true false hp.symm]; exact Finset.mem_singleton_self _)
      () () (Nw false) rfl (amount_x m ρ c n false false 0) (amount_x m ρ n c true false 0) O' hO (W := W)
      (Entails.of_eq (payload_x m ρ c n false false 0).symm)
      (by
        refine BIBase.Entails.trans ?_ (Entails.of_eq (payload_x m ρ n c true false 0).symm)
        dsimp only [xPay, slotGot]
        iintro H
        iexists _
        isplitr; · ipureintro; exact write_slotQ c n fd (qB m ρ c)
        iexact H)) $$ [HO Hsrc Hdst Hts Htr]
  · isplitr; · iapply (inv_at m ρ K (c, .inr (n, false, false))); iexact HR
    isplitr; · iapply (inv_at m ρ K (n, .inr (c, true, false))); iexact HR
    isplitl [Hsrc]; · iexact Hsrc
    isplitl [Hdst]; · iexact Hdst
    isplitl [HO]; · iexact HO
    isplitl [Hts]; · iexact Hts
    isplitr; · iapply (reached_at m ρ K (c, .inr (n, false, false))); iexact HR
    isplitl [Htr]; · iexact Htr
    iapply (reached_at m ρ K (n, .inr (c, true, false))); iexact HR
  iintro ⟨Hc, HO⟩
  iapply Hk
  isplitl [HO]; · iexists W; iexact HO
  isplitl [Hc]; · iexact Hc
  iexact Hat

theorem wp_sendO (c n p : Dev nD) (hn : n = p) (hp : p ≠ c) {sS rS : DmaSem sig} (hsS : sS = semAt cc0_scratch8 p) (hrS : rS = semAt cc0_scratch9 c)
    {hsc : (slotO c : Memref sig (Dev.tc n : Thread nD τ).2.kind .vmem S256x512 .bf16).view.ref.isScScratch = false}
    {hsrc : (M7 : Memref sig .tc .vmem S256x512 .bf16).view.WordExact} {hdst : (slotO c).view.WordExact}
    {hsem : DmaTarget.Typed .vmem (.dma rS) (.remote (Dev.tc n : Thread nD τ) (slotO c : Memref sig .tc .vmem S256x512 .bf16) (.dma sS) hsc)}
    (O O' : CellTallies nD τ sig Unit) (hO : O = O' + owX c p true)
    {α : Type} {Q : α → sProp 𝕄} {k : PUnit → Prog (TpuEff nD τ sig (Elt F) Λ₀ .tc) α} :
    iprop(records m ρ K ∗ owesE c O ∗ sendRes m ρ c p true ∗ slotAny p c true)
      ⊢ iprop(((owesE c O' ∗ pend c p false true) -∗ WP c (k ⟨⟩) Q)
        -∗ WP c (.op (.enqueueDma M7 (.remote (Dev.tc n : Thread nD τ) (slotO c) (.dma sS) hsc) (.dma rS) hsrc hdst hsem) k) Q) := by
  subst hn; subst hsS; subst hrS
  unfold owesE sendRes slotAny pend
  dsimp only
  iintro ⟨#HR, ⟨%W, HO⟩, ⟨Hsrc, Hts, Htr, Hat⟩, ⟨%fd, Hdst⟩⟩ Hk
  ihave Hsrc := (show srcTok m ρ c n true ⊢ (M7.view.loc (c : Thread nD τ) ↦[M7.view.set]{shr c n} oB m ρ c) from .rfl) $$ Hsrc
  iapply (Rounds.wp_send_pointsTo 𝒱₀ ER (exRd m ρ) (c : Thread nD τ) none (c' := (n : Thread nD τ)) (src := M7) (dst := slotO c)
      (sS := .dma (semAt cc0_scratch8 n)) (sem := .dma (semAt cc0_scratch9 c))
      (κ₁ := K (c, .inr (n, false, true))) (κ₂ := K (n, .inr (c, true, true)))
      (r₁ := 0) (r₂ := 0) (d₁ := 0) (d₂ := 0) (fd := fd) (fs := oB m ρ c) (q := shr c n)
      (by rw [show ((c : Thread nD τ), SemLoc.dma (semAt cc0_scratch8 n)) = xCell c n false true from rfl, duties_x m ρ c n false true hp]; exact Finset.mem_singleton_self _)
      (by rw [show ((n : Thread nD τ), SemLoc.dma (semAt cc0_scratch9 c)) = xCell n c true true from rfl, duties_x m ρ n c true true hp.symm]; exact Finset.mem_singleton_self _)
      () () (Nw true) rfl (amount_x m ρ c n false true 0) (amount_x m ρ n c true true 0) O' hO (W := W)
      (Entails.of_eq (payload_x m ρ c n false true 0).symm)
      (by
        refine BIBase.Entails.trans ?_ (Entails.of_eq (payload_x m ρ n c true true 0).symm)
        dsimp only [xPay, slotGot]
        iintro H
        iexists _
        isplitr; · ipureintro; exact write_slotO c n fd (oB m ρ c)
        iexact H)) $$ [HO Hsrc Hdst Hts Htr]
  · isplitr; · iapply (inv_at m ρ K (c, .inr (n, false, true))); iexact HR
    isplitr; · iapply (inv_at m ρ K (n, .inr (c, true, true))); iexact HR
    isplitl [Hsrc]; · iexact Hsrc
    isplitl [Hdst]; · iexact Hdst
    isplitl [HO]; · iexact HO
    isplitl [Hts]; · iexact Hts
    isplitr; · iapply (reached_at m ρ K (c, .inr (n, false, true))); iexact HR
    isplitl [Htr]; · iexact Htr
    iapply (reached_at m ρ K (n, .inr (c, true, true))); iexact HR
  iintro ⟨Hc, HO⟩
  iapply Hk
  isplitl [HO]; · iexists W; iexact HO
  isplitl [Hc]; · iexact Hc
  iexact Hat

/-- A wait for a transfer's cell, which then closes. -/
theorem wp_waitX (c d : Dev nD) (r w : Bool) (h : d ≠ c) {sm : DmaSem sig} (hsm : sm = semAt (arr r w) d)
    {sp sp' : Space} {s s' : Shape} {e e' : EltTy} {src : Memref sig .tc sp' s' e'} {dst : Memref sig .tc sp s e}
    {hsrc : src.view.WordExact} {hdst : dst.view.WordExact} (hN : dst.view.dmaCredit = Nw w)
    {α : Type} {Q : α → sProp 𝕄} {k : PUnit → Prog (TpuEff nD τ sig (Elt F) Λ₀ .tc) α} :
    iprop(records m ρ K ∗ owesE c 0 ∗ pend c d r w)
      ⊢ iprop(((owesE c 0 ∗ done m ρ c d r w) -∗ WP c (k ⟨⟩) Q)
        -∗ WP c (.op (.waitDma2 sm src dst hsrc hdst) k) Q) := by
  subst hsm
  unfold owesE pend done
  iintro ⟨#HR, ⟨%W, HO⟩, Hc, Hat⟩ Hk
  ihave #HI := (inv_at m ρ K (c, .inr (d, r, w))) $$ HR
  iapply (Rounds.wp_wait_rest_token 𝒱₀ ER (exRd m ρ) (c : Thread nD τ) none (sm := .dma (semAt (arr r w) d)) (k' := Nw w) (κ := K (c, .inr (d, r, w)))
      (by rw [← hN]; exact wpE_waitDma2_eq 𝒱₀ (c : Thread nD τ) none Set.univ) (Set.mem_univ _) () (O := 0) (W := W) (R := 0) (m := 0) (T := ∅)
      (by rw [Nat.zero_add]; exact (expect_x m ρ c d r w h).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (show (bigSep ((exRd m ρ).duties ((c : Thread nD τ), SemLoc.dma (semAt (arr r w) d)) 0 \ ∅) fun t => (exRd m ρ).payload ((c : Thread nD τ), SemLoc.dma (semAt (arr r w) d)) 0 t) ⊢ _ from
    Entails.of_eq (rest_x m ρ c d r w h)) $$ Hpay
  imod (Rounds.cell_close ER (exRd m ρ) (Set.mem_univ (K (c, .inr (d, r, w)))) (fun h => h) (R := 0 + 1) (duties_later m ρ (xCell c d r w))) $$ [Hat] with Hz
  · isplitr; · iexact HI
    iexact Hat
  iapply Hk
  isplitl [HO]; · iexists _; iexact HO
  isplitl [Hz]; · iexact Hz
  iexact Hp

/-- The wait for a peer's block, in its slot; -/
theorem wp_waitRQ (c d : Dev nD) (h : d ≠ c) {sm : DmaSem sig} (hsm : sm = semAt (arr true false) d) {off : Fin 3 → ℕ} {inb : ∀ a, off a + S1x512x256.size a ≤ S4x512x256.size a}
    {hsrc : (((M8.slice (Rect.unit (s := S4x512x256) off S1x512x256.size inb) (fun _ => rfl)).squeeze S512x256 squeezes_S1x512x256_S512x256) : Memref sig .tc .vmem S512x256 .bf16).view.WordExact} {hdst : (((M8.slice (Rect.unit (s := S4x512x256) off S1x512x256.size inb) (fun _ => rfl)).squeeze S512x256 squeezes_S1x512x256_S512x256) : Memref sig .tc .vmem S512x256 .bf16).view.WordExact}
    {α : Type} {Q : α → sProp 𝕄} {k : PUnit → Prog (TpuEff nD τ sig (Elt F) Λ₀ .tc) α} :
    iprop(records m ρ K ∗ owesE c 0 ∗ pend c d true false)
      ⊢ iprop(((owesE c 0 ∗ done m ρ c d true false) -∗ WP c (k ⟨⟩) Q)
        -∗ WP c (.op (.waitDma2 sm (((M8.slice (Rect.unit (s := S4x512x256) off S1x512x256.size inb) (fun _ => rfl)).squeeze S512x256 squeezes_S1x512x256_S512x256) : Memref sig .tc .vmem S512x256 .bf16) (((M8.slice (Rect.unit (s := S4x512x256) off S1x512x256.size inb) (fun _ => rfl)).squeeze S512x256 squeezes_S1x512x256_S512x256) : Memref sig .tc .vmem S512x256 .bf16) hsrc hdst) k) Q) :=
  wp_waitX m ρ K c d true false h hsm (src := (((M8.slice (Rect.unit (s := S4x512x256) off S1x512x256.size inb) (fun _ => rfl)).squeeze S512x256 squeezes_S1x512x256_S512x256) : Memref sig .tc .vmem S512x256 .bf16)) (dst := (((M8.slice (Rect.unit (s := S4x512x256) off S1x512x256.size inb) (fun _ => rfl)).squeeze S512x256 squeezes_S1x512x256_S512x256) : Memref sig .tc .vmem S512x256 .bf16)) (hsrc := hsrc) (hdst := hdst) rfl
/-- and the wait for the device's own block to have left. -/
theorem wp_waitSQ (c d : Dev nD) (h : d ≠ c) {sm : DmaSem sig} (hsm : sm = semAt (arr false false) d)
    {hsrc : (slotQ c).view.WordExact} {hdst : (M6 : Memref sig .tc .vmem S512x256 .bf16).view.WordExact}
    {α : Type} {Q : α → sProp 𝕄} {k : PUnit → Prog (TpuEff nD τ sig (Elt F) Λ₀ .tc) α} :
    iprop(records m ρ K ∗ owesE c 0 ∗ pend c d false false)
      ⊢ iprop(((owesE c 0 ∗ done m ρ c d false false) -∗ WP c (k ⟨⟩) Q)
        -∗ WP c (.op (.waitDma2 sm (slotQ c) M6 hsrc hdst) k) Q) :=
  wp_waitX m ρ K c d false false h hsm (src := slotQ c) (dst := M6) (hsrc := hsrc) (hdst := hdst) rfl

/-- The wait for a peer's block, in its slot; -/
theorem wp_waitRO (c d : Dev nD) (h : d ≠ c) {sm : DmaSem sig} (hsm : sm = semAt (arr true true) d) {off : Fin 3 → ℕ} {inb : ∀ a, off a + S1x256x512.size a ≤ S4x256x512.size a}
    {hsrc : (((M9.slice (Rect.unit (s := S4x256x512) off S1x256x512.size inb) (fun _ => rfl)).squeeze S256x512 squeezes_S1x256x512_S256x512) : Memref sig .tc .vmem S256x512 .bf16).view.WordExact} {hdst : (((M9.slice (Rect.unit (s := S4x256x512) off S1x256x512.size inb) (fun _ => rfl)).squeeze S256x512 squeezes_S1x256x512_S256x512) : Memref sig .tc .vmem S256x512 .bf16).view.WordExact}
    {α : Type} {Q : α → sProp 𝕄} {k : PUnit → Prog (TpuEff nD τ sig (Elt F) Λ₀ .tc) α} :
    iprop(records m ρ K ∗ owesE c 0 ∗ pend c d true true)
      ⊢ iprop(((owesE c 0 ∗ done m ρ c d true true) -∗ WP c (k ⟨⟩) Q)
        -∗ WP c (.op (.waitDma2 sm (((M9.slice (Rect.unit (s := S4x256x512) off S1x256x512.size inb) (fun _ => rfl)).squeeze S256x512 squeezes_S1x256x512_S256x512) : Memref sig .tc .vmem S256x512 .bf16) (((M9.slice (Rect.unit (s := S4x256x512) off S1x256x512.size inb) (fun _ => rfl)).squeeze S256x512 squeezes_S1x256x512_S256x512) : Memref sig .tc .vmem S256x512 .bf16) hsrc hdst) k) Q) :=
  wp_waitX m ρ K c d true true h hsm (src := (((M9.slice (Rect.unit (s := S4x256x512) off S1x256x512.size inb) (fun _ => rfl)).squeeze S256x512 squeezes_S1x256x512_S256x512) : Memref sig .tc .vmem S256x512 .bf16)) (dst := (((M9.slice (Rect.unit (s := S4x256x512) off S1x256x512.size inb) (fun _ => rfl)).squeeze S256x512 squeezes_S1x256x512_S256x512) : Memref sig .tc .vmem S256x512 .bf16)) (hsrc := hsrc) (hdst := hdst) rfl
/-- and the wait for the device's own block to have left. -/
theorem wp_waitSO (c d : Dev nD) (h : d ≠ c) {sm : DmaSem sig} (hsm : sm = semAt (arr false true) d)
    {hsrc : (slotO c).view.WordExact} {hdst : (M7 : Memref sig .tc .vmem S256x512 .bf16).view.WordExact}
    {α : Type} {Q : α → sProp 𝕄} {k : PUnit → Prog (TpuEff nD τ sig (Elt F) Λ₀ .tc) α} :
    iprop(records m ρ K ∗ owesE c 0 ∗ pend c d false true)
      ⊢ iprop(((owesE c 0 ∗ done m ρ c d false true) -∗ WP c (k ⟨⟩) Q)
        -∗ WP c (.op (.waitDma2 sm (slotO c) M7 hsrc hdst) k) Q) :=
  wp_waitX m ρ K c d false true h hsm (src := slotO c) (dst := M7) (hsrc := hsrc) (hdst := hdst) rfl

/-- A device's cell of its own index never runs a round: it closes at once. -/
theorem close_own (c : Dev nD) (r w : Bool) :
    iprop(records m ρ K ∗ atPos ER (xCell c c r w) 0 ∅ 0) ⊢ |={Set.univ}=> semVal (xCell c c r w) 0 := by
  iintro ⟨#HR, Hat⟩
  ihave #HI := (inv_at m ρ K (c, .inr (c, r, w))) $$ HR
  iapply (Rounds.cell_close ER (exRd m ρ) (Set.mem_univ (K (c, .inr (c, r, w)))) (fun h => h) (R := 0) (duties_own' m ρ c r w))
  isplitr; · iexact HI
  iexact Hat

/-! ## The slot buffers, one window per peer -/

theorem mem_slotQ (o : Dev nD) (i : S4x512x256.Idx) : i ∈ (slotQ o).view.set ↔ (i 0).val = o.val := by
  have h0 : (k0_off3 o) 0 = o.val := by revert o; decide
  have h1 : (k0_off3 o) 1 = 0 := by revert o; decide
  have h2 : (k0_off3 o) 2 = 0 := by revert o; decide
  rw [show (slotQ o).view.set = ((View.whole cc0_scratch2).slice (Rect.unit (s := S4x512x256) (k0_off3 o) S1x512x256.size (k0_off3_inb o))).set from View.set_reshape _ _,
    View.set_slice_whole, Rect.mem_set_unit]
  have e0 : S1x512x256.size 0 = 1 := rfl
  have e1 : S1x512x256.size 1 = 512 := rfl
  have e2 : S1x512x256.size 2 = 256 := rfl
  have b1 := (i 1).isLt
  have b2 := (i 2).isLt
  constructor
  · intro h
    have := h 0
    omega
  · intro h a
    fin_cases a
    · show k0_off3 o 0 ≤ (i 0).val ∧ (i 0).val < k0_off3 o 0 + S1x512x256.size 0; omega
    · exact ⟨by show k0_off3 o 1 ≤ _; omega, by show (i 1).val < k0_off3 o 1 + 512; rw [h1, Nat.zero_add]; exact b1⟩
    · exact ⟨by show k0_off3 o 2 ≤ _; omega, by show (i 2).val < k0_off3 o 2 + 256; rw [h2, Nat.zero_add]; exact b2⟩
theorem mem_slotO (o : Dev nD) (i : S4x256x512.Idx) : i ∈ (slotO o).view.set ↔ (i 0).val = o.val := by
  have h0 : (k0_off5 o) 0 = o.val := by revert o; decide
  have h1 : (k0_off5 o) 1 = 0 := by revert o; decide
  have h2 : (k0_off5 o) 2 = 0 := by revert o; decide
  rw [show (slotO o).view.set = ((View.whole cc0_scratch3).slice (Rect.unit (s := S4x256x512) (k0_off5 o) S1x256x512.size (k0_off5_inb o))).set from View.set_reshape _ _,
    View.set_slice_whole, Rect.mem_set_unit]
  have e0 : S1x256x512.size 0 = 1 := rfl
  have b1 := (i 1).isLt
  have b2 := (i 2).isLt
  constructor
  · intro h
    have := h 0
    omega
  · intro h a
    fin_cases a
    · show k0_off5 o 0 ≤ (i 0).val ∧ (i 0).val < k0_off5 o 0 + S1x256x512.size 0; omega
    · exact ⟨by show k0_off5 o 1 ≤ _; omega, by show (i 1).val < k0_off5 o 1 + 256; rw [h1, Nat.zero_add]; exact b1⟩
    · exact ⟨by show k0_off5 o 2 ≤ _; omega, by show (i 2).val < k0_off5 o 2 + 512; rw [h2, Nat.zero_add]; exact b2⟩

theorem slotQ_disjoint (o o' : Dev nD) (h : o ≠ o') : Disjoint (slotQ o).view.set (slotQ o').view.set := by
  rw [Finset.disjoint_left]
  intro i hi hi'
  exact h (Fin.ext (((mem_slotQ o i).mp hi).symm.trans ((mem_slotQ o' i).mp hi')))
theorem slotO_disjoint (o o' : Dev nD) (h : o ≠ o') : Disjoint (slotO o).view.set (slotO o').view.set := by
  rw [Finset.disjoint_left]
  intro i hi hi'
  exact h (Fin.ext (((mem_slotO o i).mp hi).symm.trans ((mem_slotO o' i).mp hi')))
theorem slotQ_cover : (Finset.univ : Finset (Dev nD)).biUnion (fun o => (slotQ o).view.set) = (Finset.univ : Finset S4x512x256.Idx) := by
  refine Finset.eq_univ_of_forall fun i => ?_
  exact Finset.mem_biUnion.mpr ⟨(⟨(i 0).val, (i 0).isLt⟩ : Dev nD), Finset.mem_univ _, (mem_slotQ _ i).mpr rfl⟩
theorem slotO_cover : (Finset.univ : Finset (Dev nD)).biUnion (fun o => (slotO o).view.set) = (Finset.univ : Finset S4x256x512.Idx) := by
  refine Finset.eq_univ_of_forall fun i => ?_
  exact Finset.mem_biUnion.mpr ⟨(⟨(i 0).val, (i 0).isLt⟩ : Dev nD), Finset.mem_univ _, (mem_slotO _ i).mpr rfl⟩

/-- A whole buffer's contents held at a share. -/
abbrev held (c : Dev nD) {sp : Space} {s : Shape} {e : EltTy} (M : Memref sig .tc sp s e) (q : PosShare TreeShare) (f : M.view.ref.ty.Contents (Elt F)) : sProp 𝕄 :=
  M.view.loc (c : Thread nD τ) ↦[Finset.univ]{q} f

theorem slotQ_any (c o : Dev nD) (f : M8.view.ref.ty.Contents (Elt F)) :
    (M8.view.loc (c : Thread nD τ) ↦[(slotQ o).view.set]{fullShare} f : sProp 𝕄) ⊢ slotAny (F := F) c o false := by
  unfold slotAny
  iintro H; iexists f; iexact H
theorem slotsQ_split (c : Dev nD) (f : M8.view.ref.ty.Contents (Elt F)) :
    held c M8 fullShare f ⊢ bigSep Finset.univ fun o : Dev nD => slotAny (F := F) c o false := by
  refine BIBase.Entails.trans (show _ ⊢ bigSep Finset.univ (fun o : Dev nD => (M8.view.loc (c : Thread nD τ) ↦[(slotQ o).view.set]{fullShare} f : sProp 𝕄)) from Entails.of_eq ?_) (bigSep_mono fun o _ => slotQ_any c o f)
  rw [← pointsTo_biUnion (ℓ := M8.view.loc (c : Thread nD τ)) Finset.univ (fun o : Dev nD => (slotQ o).view.set) fun o _ o' _ h => slotQ_disjoint o o' h]
  exact congrArg (fun S => (M8.view.loc (c : Thread nD τ) ↦[S]{fullShare} f : sProp 𝕄)) slotQ_cover.symm
theorem slotO_any (c o : Dev nD) (f : M9.view.ref.ty.Contents (Elt F)) :
    (M9.view.loc (c : Thread nD τ) ↦[(slotO o).view.set]{fullShare} f : sProp 𝕄) ⊢ slotAny (F := F) c o true := by
  unfold slotAny
  iintro H; iexists f; iexact H
theorem slotsO_split (c : Dev nD) (f : M9.view.ref.ty.Contents (Elt F)) :
    held c M9 fullShare f ⊢ bigSep Finset.univ fun o : Dev nD => slotAny (F := F) c o true := by
  refine BIBase.Entails.trans (show _ ⊢ bigSep Finset.univ (fun o : Dev nD => (M9.view.loc (c : Thread nD τ) ↦[(slotO o).view.set]{fullShare} f : sProp 𝕄)) from Entails.of_eq ?_) (bigSep_mono fun o _ => slotO_any c o f)
  rw [← pointsTo_biUnion (ℓ := M9.view.loc (c : Thread nD τ)) Finset.univ (fun o : Dev nD => (slotO o).view.set) fun o _ o' _ h => slotO_disjoint o o' h]
  exact congrArg (fun S => (M9.view.loc (c : Thread nD τ) ↦[S]{fullShare} f : sProp 𝕄)) slotO_cover.symm

theorem slotsQ_join (c : Dev nD) :
    (bigSep Finset.univ fun o : Dev nD => slotAny (F := F) c o false) ⊢ iprop(∃ f, held c M8 fullShare f) := by
  refine BIBase.Entails.trans (show _ ⊢ iprop(∃ fs : Dev nD → (cc0_scratch2 : Ref sig .tc).ty.Contents (Elt F), bigSep Finset.univ fun o : Dev nD => (M8.view.loc (c : Thread nD τ) ↦[(slotQ o).view.set]{fullShare} fs o)) from ?_) ?_
  · exact BI.bigSep_exists_pi _ _
  · iintro ⟨%fs, H⟩
    ihave H := (pointsTo_biUnion_join (ℓ := M8.view.loc (c : Thread nD τ)) Finset.univ (fun o : Dev nD => (slotQ o).view.set) fs (fs 0) fun o _ o' _ h => slotQ_disjoint o o' h) $$ H
    icases H with ⟨%g, -, H⟩
    iexists g
    iapply (Entails.of_eq (congrArg (fun S => (M8.view.loc (c : Thread nD τ) ↦[S]{fullShare} g : sProp 𝕄)) slotQ_cover))
    iexact H
theorem slotsO_join (c : Dev nD) :
    (bigSep Finset.univ fun o : Dev nD => slotAny (F := F) c o true) ⊢ iprop(∃ f, held c M9 fullShare f) := by
  refine BIBase.Entails.trans (show _ ⊢ iprop(∃ fs : Dev nD → (cc0_scratch3 : Ref sig .tc).ty.Contents (Elt F), bigSep Finset.univ fun o : Dev nD => (M9.view.loc (c : Thread nD τ) ↦[(slotO o).view.set]{fullShare} fs o)) from ?_) ?_
  · exact BI.bigSep_exists_pi _ _
  · iintro ⟨%fs, H⟩
    ihave H := (pointsTo_biUnion_join (ℓ := M9.view.loc (c : Thread nD τ)) Finset.univ (fun o : Dev nD => (slotO o).view.set) fs (fs 0) fun o _ o' _ h => slotO_disjoint o o' h) $$ H
    icases H with ⟨%g, -, H⟩
    iexists g
    iapply (Entails.of_eq (congrArg (fun S => (M9.view.loc (c : Thread nD τ) ↦[S]{fullShare} g : sProp 𝕄)) slotO_cover))
    iexact H

theorem slotGot_any (c o : Dev nD) (w : Bool) : slotGot m ρ c o w ⊢ slotAny (F := F) c o w := by
  cases w <;> dsimp only [slotGot, slotAny] <;> (iintro ⟨%f, -, H⟩; iexists f; iexact H)

theorem shapeCasts_Q1 : S512x256.ShapeCasts S1x512x256 := by decide
theorem shapeCasts_O1 : S256x512.ShapeCasts S1x256x512 := by decide

/-- What a load of a filled slot reads: its peer's block, the leading one added. -/
def slotValQ (o : Dev nD) : Vec F S1x512x256 .bf16 := shapeCast S1x512x256 (qB m ρ o) shapeCasts_Q1
def slotValO (o : Dev nD) : Vec F S1x256x512 .bf16 := shapeCast S1x256x512 (oB m ρ o) shapeCasts_O1

theorem wp_loadQ (c o : Dev nD) {off : Fin 3 → ℕ} (hoff : off = k0_off3 o) {inb : ∀ a, off a + S1x512x256.size a ≤ S4x512x256.size a}
    {hl : M8.view.LoadsAt (Rect.unit (s := S4x512x256) off S1x512x256.size inb).toLoadRect}
    {α : Type} {Q : α → sProp 𝕄} {k : Vec F S1x512x256 .bf16 → Prog (TpuEff nD τ sig (Elt F) Λ₀ .tc) α} :
    slotGot m ρ c o false ⊢ iprop((slotGot m ρ c o false -∗ WP c (k (slotValQ m ρ o)) Q)
      -∗ WP c (.op (.load M8 (Rect.unit (s := S4x512x256) off S1x512x256.size inb).toLoadRect hl) k) Q) := by
  subst hoff
  dsimp only [slotGot]
  iintro ⟨%f, %hf, H⟩ Hk
  iapply (wp_load 𝒱₀ (c : Thread nD τ) none Set.univ (m := M8) (S := (slotQ o).view.set) (by
    simp [View.set_slice, View.setOn])) $$ H
  iintro H
  have hv : M8.view.readAt (Elt F) (Rect.unit (s := S4x512x256) (k0_off3 o) S1x512x256.size inb).toLoadRect f = slotValQ m ρ o := by
    rw [slotValQ, ← hf]
    rw [Memref.read_squeeze_slice M8 (Rect.unit (s := S4x512x256) (k0_off3 o) S1x512x256.size (k0_off3_inb o)) (fun _ => rfl) squeezes_S1x512x256_S512x256 (show S1x512x256.ShapeCasts S512x256 by decide)]
    exact (shapeCast_shapeCast _ _ _).symm
  rw [← hv]
  iapply Hk
  iexists f
  isplitr; · ipureintro; exact hf
  iexact H
theorem wp_loadO (c o : Dev nD) {off : Fin 3 → ℕ} (hoff : off = k0_off5 o) {inb : ∀ a, off a + S1x256x512.size a ≤ S4x256x512.size a}
    {hl : M9.view.LoadsAt (Rect.unit (s := S4x256x512) off S1x256x512.size inb).toLoadRect}
    {α : Type} {Q : α → sProp 𝕄} {k : Vec F S1x256x512 .bf16 → Prog (TpuEff nD τ sig (Elt F) Λ₀ .tc) α} :
    slotGot m ρ c o true ⊢ iprop((slotGot m ρ c o true -∗ WP c (k (slotValO m ρ o)) Q)
      -∗ WP c (.op (.load M9 (Rect.unit (s := S4x256x512) off S1x256x512.size inb).toLoadRect hl) k) Q) := by
  subst hoff
  dsimp only [slotGot]
  iintro ⟨%f, %hf, H⟩ Hk
  iapply (wp_load 𝒱₀ (c : Thread nD τ) none Set.univ (m := M9) (S := (slotO o).view.set) (by
    simp [View.set_slice, View.setOn])) $$ H
  iintro H
  have hv : M9.view.readAt (Elt F) (Rect.unit (s := S4x256x512) (k0_off5 o) S1x256x512.size inb).toLoadRect f = slotValO m ρ o := by
    rw [slotValO, ← hf]
    rw [Memref.read_squeeze_slice M9 (Rect.unit (s := S4x256x512) (k0_off5 o) S1x256x512.size (k0_off5_inb o)) (fun _ => rfl) squeezes_S1x256x512_S256x512 (show S1x256x512.ShapeCasts S256x512 by decide)]
    exact (shapeCast_shapeCast _ _ _).symm
  rw [← hv]
  iapply Hk
  iexists f
  isplitr; · ipureintro; exact hf
  iexact H

/-! ## The block-diagonal buffers, one block at a time -/

theorem blk_inb (n : ℕ) : ∀ a, (![n % 32 / 16, n / 4 % 4, n % 4 * 128, n % 4 * 64] : Fin 4 → ℕ) a + S1x1x128x64.size a ≤ S2x4x512x256.size a := by
  intro a
  fin_cases a
  · show n % 32 / 16 + 1 ≤ 2; omega
  · show n / 4 % 4 + 1 ≤ 4; omega
  · show n % 4 * 128 + 128 ≤ 512; omega
  · show n % 4 * 64 + 64 ≤ 256; omega
theorem src_inb (n : ℕ) : ∀ a, (![n % 32 / 16, 0, n % 16, 0] : Fin 4 → ℕ) a + S1x128x1x64.size a ≤ S2x128x16x64.size a := by
  intro a
  fin_cases a
  · show n % 32 / 16 + 1 ≤ 2; omega
  · show 0 + 128 ≤ 128; omega
  · show n % 16 + 1 ≤ 16; omega
  · show 0 + 64 ≤ 64; omega
/-- Where block `n` goes, and where it comes from. -/
abbrev blkR (n : ℕ) : Rect S2x4x512x256 := Rect.unit (s := S2x4x512x256) ![n % 32 / 16, n / 4 % 4, n % 4 * 128, n % 4 * 64] S1x1x128x64.size (blk_inb n)
abbrev srcR (n : ℕ) : Rect S2x128x16x64 := Rect.unit (s := S2x128x16x64) ![n % 32 / 16, 0, n % 16, 0] S1x128x1x64.size (src_inb n)

abbrev M0 : Memref sig .tc .vmem S2x128x512 .bf16 := Memref.whole cc0_stg0_0
abbrev M1 : Memref sig .tc .vmem S512x256 .bf16 := Memref.whole cc0_stg1_0
abbrev M2 : Memref sig .tc .vmem S2x128x16x64 .bf16 := Memref.whole cc0_stg2_0
abbrev M3 : Memref sig .tc .vmem S2x128x16x64 .bf16 := Memref.whole cc0_stg3_0
abbrev M4 : Memref sig .tc .vmem S256x512 .bf16 := Memref.whole cc0_stg4_0
abbrev M5 : Memref sig .tc .vmem S2x128x512 .f32 := Memref.whole cc0_stg5_0

/-- Block `n` of the keys (of the values). -/
def blkV (X : Vec F S2x128x16x64 .bf16) (n : ℕ) : Vec F S1x1x128x64 .bf16 :=
  shapeCast S1x1x128x64 (shapeCast S128x64 (M2.view.readAt (Elt F) (srcR n).toLoadRect X : Vec F S1x128x1x64 .bf16) shapeCasts_S1x128x1x64_S128x64) shapeCasts_S128x64_S1x1x128x64

/-- A block-diagonal buffer once its first `n` blocks are written. -/
def bd (X : Vec F S2x128x16x64 .bf16) : ℕ → Vec F S2x4x512x256 .bf16
  | 0 => k0_pay4
  | n + 1 => (M10.access (blkR n)).write (Elt F) (bd X n) (blkV X n) Finset.univ

theorem bd_succ (X : Vec F S2x128x16x64 .bf16) (n : ℕ) : bd X (n + 1) = (M10.access (blkR n)).write (Elt F) (bd X n) (blkV X n) Finset.univ := rfl
theorem bd_succ' (X : Vec F S2x128x16x64 .bf16) (n : ℕ) : bd X (n + 1) = (M11.access (blkR n)).write (Elt F) (bd X n) (blkV X n) Finset.univ := rfl

theorem st10 (c : Dev nD) (n : ℕ) (X : Vec F S2x128x16x64 .bf16) {w : Vec F S1x1x128x64 .bf16} {off : Fin 4 → ℕ} {inb : ∀ a, off a + S1x1x128x64.size a ≤ S2x4x512x256.size a}
    (hw : w = blkV X n) (hr : off = ![n % 32 / 16, n / 4 % 4, n % 4 * 128, n % 4 * 64])
    {hs : (M10.access (Rect.unit (s := S2x4x512x256) off S1x1x128x64.size inb)).Stores Finset.univ} {hsp}
    {α : Type} {Q : α → sProp 𝕄} {k : PUnit → Prog (TpuEff nD τ sig (Elt F) Λ₀ .tc) α} :
    held c M10 fullShare (bd X n) ⊢ iprop((held c M10 fullShare (bd X (n + 1)) -∗ WP c (k ⟨⟩) Q)
      -∗ WP c (.op (.store M10 (Rect.unit (s := S2x4x512x256) off S1x1x128x64.size inb) w Finset.univ hs hsp) k) Q) := by
  subst hw; subst hr
  rw [bd_succ X n]
  generalize bd X n = B
  generalize blkV X n = w
  iintro H Hk
  iapply (wp_store 𝒱₀ (c : Thread nD τ) none Set.univ (m := M10) (r := blkR n) (Mk := Finset.univ) (Finset.subset_univ _)) $$ H
  iintro H
  iapply Hk
  iexact H
theorem st11 (c : Dev nD) (n : ℕ) (X : Vec F S2x128x16x64 .bf16) {w : Vec F S1x1x128x64 .bf16} {off : Fin 4 → ℕ} {inb : ∀ a, off a + S1x1x128x64.size a ≤ S2x4x512x256.size a}
    (hw : w = blkV X n) (hr : off = ![n % 32 / 16, n / 4 % 4, n % 4 * 128, n % 4 * 64])
    {hs : (M11.access (Rect.unit (s := S2x4x512x256) off S1x1x128x64.size inb)).Stores Finset.univ} {hsp}
    {α : Type} {Q : α → sProp 𝕄} {k : PUnit → Prog (TpuEff nD τ sig (Elt F) Λ₀ .tc) α} :
    held c M11 fullShare (bd X n) ⊢ iprop((held c M11 fullShare (bd X (n + 1)) -∗ WP c (k ⟨⟩) Q)
      -∗ WP c (.op (.store M11 (Rect.unit (s := S2x4x512x256) off S1x1x128x64.size inb) w Finset.univ hs hsp) k) Q) := by
  subst hw; subst hr
  rw [bd_succ' X n]
  generalize bd X n = B
  generalize blkV X n = w
  iintro H Hk
  iapply (wp_store 𝒱₀ (c : Thread nD τ) none Set.univ (m := M11) (r := blkR n) (Mk := Finset.univ) (Finset.subset_univ _)) $$ H
  iintro H
  iapply Hk
  iexact H

end Cert.KernelIdealRun

end
-- ==== Proof.Fill.lean ====
/-
# The block-diagonal fill

Between the sends and the arithmetic the body clears two buffers and writes 32 blocks of the keys into one and 32 blocks
of the values into the other. One lemma per window of the body's cut: the windows of buffers 2 and 3 are read, the
two buffers go from their first blocks to their next ones.
-/
module

public import proofs.«01_k».proof.Proof.Ops

@[expose] public section

set_option synthInstance.maxSize 4096

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- The two source windows, and the two buffers with `a` and `b` blocks written. -/
def fill (c : Dev nD) (X2 X3 : Vec F S2x128x16x64 .bf16) (a b : ℕ) : sProp 𝕄 :=
  iprop(held c M2 fullShare X2 ∗ held c M3 fullShare X3 ∗ held c M10 fullShare (bd X2 a) ∗ held c M11 fullShare (bd X3 b))

/-- Block `n` as it is loaded: two axes. -/
def mid (X : Vec F S2x128x16x64 .bf16) (n : ℕ) : FVec F S128x64 .bf16 :=
  shapeCast S128x64 (M2.view.readAt (Elt F) (srcR n).toLoadRect X : Vec F S1x128x1x64 .bf16) shapeCasts_S1x128x1x64_S128x64

variable (c : Dev nD) (X2 X3 : Vec F S2x128x16x64 .bf16)

theorem part4 {Q : FVec F S128x64 .bf16 → sProp 𝕄} :
    fill c X2 X3 1 0 ⊢ iprop((fill c X2 X3 3 2 -∗ Q (mid X3 2)) -∗ WP c (k0_part4 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 cc0_scratch9 (mid X3 0)) Q) := by
  rw [k0_part4_eq_skeleton]; unfold k0_part4_skel fill
  simp only [Prog.lift, Prog.bind_op, Prog.bind_ret, Prog.pure_eq_ret]
  iintro ⟨H2, H3, H10, H11⟩ Hk
  iapply (wp_load 𝒱₀ (c : Thread nD τ) none Set.univ (m := M11) (Finset.subset_univ _)) $$ H11; iintro H11
  iapply (st11 c 0 X3 (by rfl) (by rfl)) $$ H11; iintro H11
  iapply (wp_load 𝒱₀ (c : Thread nD τ) none Set.univ (m := M2) (Finset.subset_univ _)) $$ H2; iintro H2
  iapply (wp_load 𝒱₀ (c : Thread nD τ) none Set.univ (m := M10) (Finset.subset_univ _)) $$ H10; iintro H10
  iapply (st10 c 1 X2 (by rfl) (by rfl)) $$ H10; iintro H10
  iapply (wp_load 𝒱₀ (c : Thread nD τ) none Set.univ (m := M3) (Finset.subset_univ _)) $$ H3; iintro H3
  iapply (wp_load 𝒱₀ (c : Thread nD τ) none Set.univ (m := M11) (Finset.subset_univ _)) $$ H11; iintro H11
  iapply (st11 c 1 X3 (by rfl) (by rfl)) $$ H11; iintro H11
  iapply (wp_load 𝒱₀ (c : Thread nD τ) none Set.univ (m := M2) (Finset.subset_univ _)) $$ H2; iintro H2
  iapply (wp_load 𝒱₀ (c : Thread nD τ) none Set.univ (m := M10) (Finset.subset_univ _)) $$ H10; iintro H10
  iapply (st10 c 2 X2 (by rfl) (by rfl)) $$ H10; iintro H10
  iapply (wp_load 𝒱₀ (c : Thread nD τ) none Set.univ (m := M3) (Finset.subset_univ _)) $$ H3; iintro H3
  iapply (wp_end c (a' := (mid X3 2)) rfl); iapply Hk
  isplitl [H2]; · iexact H2
  isplitl [H3]; · iexact H3
  isplitl [H10]; · iexact H10
  iexact H11

theorem part5 {Q : PUnit → sProp 𝕄} :
    fill c X2 X3 3 2 ⊢ iprop((fill c X2 X3 5 5 -∗ Q ⟨⟩) -∗ WP c (k0_part5 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 cc0_scratch9 (mid X3 2)) Q) := by
  rw [k0_part5_eq_skeleton]; unfold k0_part5_skel fill
  simp only [Prog.lift, Prog.bind_op, Prog.bind_ret, Prog.pure_eq_ret]
  iintro ⟨H2, H3, H10, H11⟩ Hk
  iapply (wp_load 𝒱₀ (c : Thread nD τ) none Set.univ (m := M11) (Finset.subset_univ _)) $$ H11; iintro H11
  iapply (st11 c 2 X3 (by rfl) (by rfl)) $$ H11; iintro H11
  iapply (wp_load 𝒱₀ (c : Thread nD τ) none Set.univ (m := M2) (Finset.subset_univ _)) $$ H2; iintro H2
  iapply (wp_load 𝒱₀ (c : Thread nD τ) none Set.univ (m := M10) (Finset.subset_univ _)) $$ H10; iintro H10
  iapply (st10 c 3 X2 (by rfl) (by rfl)) $$ H10; iintro H10
  iapply (wp_load 𝒱₀ (c : Thread nD τ) none Set.univ (m := M3) (Finset.subset_univ _)) $$ H3; iintro H3
  iapply (wp_load 𝒱₀ (c : Thread nD τ) none Set.univ (m := M11) (Finset.subset_univ _)) $$ H11; iintro H11
  iapply (st11 c 3 X3 (by rfl) (by rfl)) $$ H11; iintro H11
  iapply (wp_load 𝒱₀ (c : Thread nD τ) none Set.univ (m := M2) (Finset.subset_univ _)) $$ H2; iintro H2
  iapply (wp_load 𝒱₀ (c : Thread nD τ) none Set.univ (m := M10) (Finset.subset_univ _)) $$ H10; iintro H10
  iapply (st10 c 4 X2 (by rfl) (by rfl)) $$ H10; iintro H10
  iapply (wp_load 𝒱₀ (c : Thread nD τ) none Set.univ (m := M3) (Finset.subset_univ _)) $$ H3; iintro H3
  iapply (wp_load 𝒱₀ (c : Thread nD τ) none Set.univ (m := M11) (Finset.subset_univ _)) $$ H11; iintro H11
  iapply (st11 c 4 X3 (by rfl) (by rfl)) $$ H11; iintro H11
  iapply (wp_end c (a' := ⟨⟩) rfl); iapply Hk
  isplitl [H2]; · iexact H2
  isplitl [H3]; · iexact H3
  isplitl [H10]; · iexact H10
  iexact H11

theorem part6 {Q : PUnit → sProp 𝕄} :
    fill c X2 X3 5 5 ⊢ iprop((fill c X2 X3 7 7 -∗ Q ⟨⟩) -∗ WP c (k0_part6 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 cc0_scratch9) Q) := by
  rw [k0_part6_eq_skeleton]; unfold k0_part6_skel fill
  simp only [Prog.lift, Prog.bind_op, Prog.bind_ret, Prog.pure_eq_ret]
  iintro ⟨H2, H3, H10, H11⟩ Hk
  iapply (wp_load 𝒱₀ (c : Thread nD τ) none Set.univ (m := M2) (Finset.subset_univ _)) $$ H2; iintro H2
  iapply (wp_load 𝒱₀ (c : Thread nD τ) none Set.univ (m := M10) (Finset.subset_univ _)) $$ H10; iintro H10
  iapply (st10 c 5 X2 (by rfl) (by rfl)) $$ H10; iintro H10
  iapply (wp_load 𝒱₀ (c : Thread nD τ) none Set.univ (m := M3) (Finset.subset_univ _)) $$ H3; iintro H3
  iapply (wp_load 𝒱₀ (c : Thread nD τ) none Set.univ (m := M11) (Finset.subset_univ _)) $$ H11; iintro H11
  iapply (st11 c 5 X3 (by rfl) (by rfl)) $$ H11; iintro H11
  iapply (wp_load 𝒱₀ (c : Thread nD τ) none Set.univ (m := M2) (Finset.subset_univ _)) $$ H2; iintro H2
  iapply (wp_load 𝒱₀ (c : Thread nD τ) none Set.univ (m := M10) (Finset.subset_univ _)) $$ H10; iintro H10
  iapply (st10 c 6 X2 (by rfl) (by rfl)) $$ H10; iintro H10
  iapply (wp_load 𝒱₀ (c : Thread nD τ) none Set.univ (m := M3) (Finset.subset_univ _)) $$ H3; iintro H3
  iapply (wp_load 𝒱₀ (c : Thread nD τ) none Set.univ (m := M11) (Finset.subset_univ _)) $$ H11; iintro H11
  iapply (st11 c 6 X3 (by rfl) (by rfl)) $$ H11; iintro H11
  iapply (wp_end c (a' := ⟨⟩) rfl); iapply Hk
  isplitl [H2]; · iexact H2
  isplitl [H3]; · iexact H3
  isplitl [H10]; · iexact H10
  iexact H11

theorem part7 {Q : FVec F S128x64 .bf16 → sProp 𝕄} :
    fill c X2 X3 7 7 ⊢ iprop((fill c X2 X3 9 9 -∗ Q (mid X2 9)) -∗ WP c (k0_part7 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 cc0_scratch9) Q) := by
  rw [k0_part7_eq_skeleton]; unfold k0_part7_skel fill
  simp only [Prog.lift, Prog.bind_op, Prog.bind_ret, Prog.pure_eq_ret]
  iintro ⟨H2, H3, H10, H11⟩ Hk
  iapply (wp_load 𝒱₀ (c : Thread nD τ) none Set.univ (m := M2) (Finset.subset_univ _)) $$ H2; iintro H2
  iapply (wp_load 𝒱₀ (c : Thread nD τ) none Set.univ (m := M10) (Finset.subset_univ _)) $$ H10; iintro H10
  iapply (st10 c 7 X2 (by rfl) (by rfl)) $$ H10; iintro H10
  iapply (wp_load 𝒱₀ (c : Thread nD τ) none Set.univ (m := M3) (Finset.subset_univ _)) $$ H3; iintro H3
  iapply (wp_load 𝒱₀ (c : Thread nD τ) none Set.univ (m := M11) (Finset.subset_univ _)) $$ H11; iintro H11
  iapply (st11 c 7 X3 (by rfl) (by rfl)) $$ H11; iintro H11
  iapply (wp_load 𝒱₀ (c : Thread nD τ) none Set.univ (m := M2) (Finset.subset_univ _)) $$ H2; iintro H2
  iapply (wp_load 𝒱₀ (c : Thread nD τ) none Set.univ (m := M10) (Finset.subset_univ _)) $$ H10; iintro H10
  iapply (st10 c 8 X2 (by rfl) (by rfl)) $$ H10; iintro H10
  iapply (wp_load 𝒱₀ (c : Thread nD τ) none Set.univ (m := M3) (Finset.subset_univ _)) $$ H3; iintro H3
  iapply (wp_load 𝒱₀ (c : Thread nD τ) none Set.univ (m := M11) (Finset.subset_univ _)) $$ H11; iintro H11
  iapply (st11 c 8 X3 (by rfl) (by rfl)) $$ H11; iintro H11
  iapply (wp_load 𝒱₀ (c : Thread nD τ) none Set.univ (m := M2) (Finset.subset_univ _)) $$ H2; iintro H2
  iapply (wp_end c (a' := (mid X2 9)) rfl); iapply Hk
  isplitl [H2]; · iexact H2
  isplitl [H3]; · iexact H3
  isplitl [H10]; · iexact H10
  iexact H11

theorem part8 {Q : FVec F S128x64 .bf16 → sProp 𝕄} :
    fill c X2 X3 9 9 ⊢ iprop((fill c X2 X3 11 11 -∗ Q (mid X2 11)) -∗ WP c (k0_part8 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 cc0_scratch9 (mid X2 9)) Q) := by
  rw [k0_part8_eq_skeleton]; unfold k0_part8_skel fill
  simp only [Prog.lift, Prog.bind_op, Prog.bind_ret, Prog.pure_eq_ret]
  iintro ⟨H2, H3, H10, H11⟩ Hk
  iapply (wp_load 𝒱₀ (c : Thread nD τ) none Set.univ (m := M10) (Finset.subset_univ _)) $$ H10; iintro H10
  iapply (st10 c 9 X2 (by rfl) (by rfl)) $$ H10; iintro H10
  iapply (wp_load 𝒱₀ (c : Thread nD τ) none Set.univ (m := M3) (Finset.subset_univ _)) $$ H3; iintro H3
  iapply (wp_load 𝒱₀ (c : Thread nD τ) none Set.univ (m := M11) (Finset.subset_univ _)) $$ H11; iintro H11
  iapply (st11 c 9 X3 (by rfl) (by rfl)) $$ H11; iintro H11
  iapply (wp_load 𝒱₀ (c : Thread nD τ) none Set.univ (m := M2) (Finset.subset_univ _)) $$ H2; iintro H2
  iapply (wp_load 𝒱₀ (c : Thread nD τ) none Set.univ (m := M10) (Finset.subset_univ _)) $$ H10; iintro H10
  iapply (st10 c 10 X2 (by rfl) (by rfl)) $$ H10; iintro H10
  iapply (wp_load 𝒱₀ (c : Thread nD τ) none Set.univ (m := M3) (Finset.subset_univ _)) $$ H3; iintro H3
  iapply (wp_load 𝒱₀ (c : Thread nD τ) none Set.univ (m := M11) (Finset.subset_univ _)) $$ H11; iintro H11
  iapply (st11 c 10 X3 (by rfl) (by rfl)) $$ H11; iintro H11
  iapply (wp_load 𝒱₀ (c : Thread nD τ) none Set.univ (m := M2) (Finset.subset_univ _)) $$ H2; iintro H2
  iapply (wp_load 𝒱₀ (c : Thread nD τ) none Set.univ (m := M10) (Finset.subset_univ _)) $$ H10; iintro H10
  iapply (wp_end c (a' := (mid X2 11)) rfl); iapply Hk
  isplitl [H2]; · iexact H2
  isplitl [H3]; · iexact H3
  isplitl [H10]; · iexact H10
  iexact H11

theorem part9 {Q : PUnit → sProp 𝕄} :
    fill c X2 X3 11 11 ⊢ iprop((fill c X2 X3 14 13 -∗ Q ⟨⟩) -∗ WP c (k0_part9 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 cc0_scratch9 (mid X2 11)) Q) := by
  rw [k0_part9_eq_skeleton]; unfold k0_part9_skel fill
  simp only [Prog.lift, Prog.bind_op, Prog.bind_ret, Prog.pure_eq_ret]
  iintro ⟨H2, H3, H10, H11⟩ Hk
  iapply (st10 c 11 X2 (by rfl) (by rfl)) $$ H10; iintro H10
  iapply (wp_load 𝒱₀ (c : Thread nD τ) none Set.univ (m := M3) (Finset.subset_univ _)) $$ H3; iintro H3
  iapply (wp_load 𝒱₀ (c : Thread nD τ) none Set.univ (m := M11) (Finset.subset_univ _)) $$ H11; iintro H11
  iapply (st11 c 11 X3 (by rfl) (by rfl)) $$ H11; iintro H11
  iapply (wp_load 𝒱₀ (c : Thread nD τ) none Set.univ (m := M2) (Finset.subset_univ _)) $$ H2; iintro H2
  iapply (wp_load 𝒱₀ (c : Thread nD τ) none Set.univ (m := M10) (Finset.subset_univ _)) $$ H10; iintro H10
  iapply (st10 c 12 X2 (by rfl) (by rfl)) $$ H10; iintro H10
  iapply (wp_load 𝒱₀ (c : Thread nD τ) none Set.univ (m := M3) (Finset.subset_univ _)) $$ H3; iintro H3
  iapply (wp_load 𝒱₀ (c : Thread nD τ) none Set.univ (m := M11) (Finset.subset_univ _)) $$ H11; iintro H11
  iapply (st11 c 12 X3 (by rfl) (by rfl)) $$ H11; iintro H11
  iapply (wp_load 𝒱₀ (c : Thread nD τ) none Set.univ (m := M2) (Finset.subset_univ _)) $$ H2; iintro H2
  iapply (wp_load 𝒱₀ (c : Thread nD τ) none Set.univ (m := M10) (Finset.subset_univ _)) $$ H10; iintro H10
  iapply (st10 c 13 X2 (by rfl) (by rfl)) $$ H10; iintro H10
  iapply (wp_end c (a' := ⟨⟩) rfl); iapply Hk
  isplitl [H2]; · iexact H2
  isplitl [H3]; · iexact H3
  isplitl [H10]; · iexact H10
  iexact H11

theorem part10 {Q : FVec F S128x64 .bf16 → sProp 𝕄} :
    fill c X2 X3 14 13 ⊢ iprop((fill c X2 X3 16 15 -∗ Q (mid X3 15)) -∗ WP c (k0_part10 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 cc0_scratch9) Q) := by
  rw [k0_part10_eq_skeleton]; unfold k0_part10_skel fill
  simp only [Prog.lift, Prog.bind_op, Prog.bind_ret, Prog.pure_eq_ret]
  iintro ⟨H2, H3, H10, H11⟩ Hk
  iapply (wp_load 𝒱₀ (c : Thread nD τ) none Set.univ (m := M3) (Finset.subset_univ _)) $$ H3; iintro H3
  iapply (wp_load 𝒱₀ (c : Thread nD τ) none Set.univ (m := M11) (Finset.subset_univ _)) $$ H11; iintro H11
  iapply (st11 c 13 X3 (by rfl) (by rfl)) $$ H11; iintro H11
  iapply (wp_load 𝒱₀ (c : Thread nD τ) none Set.univ (m := M2) (Finset.subset_univ _)) $$ H2; iintro H2
  iapply (wp_load 𝒱₀ (c : Thread nD τ) none Set.univ (m := M10) (Finset.subset_univ _)) $$ H10; iintro H10
  iapply (st10 c 14 X2 (by rfl) (by rfl)) $$ H10; iintro H10
  iapply (wp_load 𝒱₀ (c : Thread nD τ) none Set.univ (m := M3) (Finset.subset_univ _)) $$ H3; iintro H3
  iapply (wp_load 𝒱₀ (c : Thread nD τ) none Set.univ (m := M11) (Finset.subset_univ _)) $$ H11; iintro H11
  iapply (st11 c 14 X3 (by rfl) (by rfl)) $$ H11; iintro H11
  iapply (wp_load 𝒱₀ (c : Thread nD τ) none Set.univ (m := M2) (Finset.subset_univ _)) $$ H2; iintro H2
  iapply (wp_load 𝒱₀ (c : Thread nD τ) none Set.univ (m := M10) (Finset.subset_univ _)) $$ H10; iintro H10
  iapply (st10 c 15 X2 (by rfl) (by rfl)) $$ H10; iintro H10
  iapply (wp_load 𝒱₀ (c : Thread nD τ) none Set.univ (m := M3) (Finset.subset_univ _)) $$ H3; iintro H3
  iapply (wp_end c (a' := (mid X3 15)) rfl); iapply Hk
  isplitl [H2]; · iexact H2
  isplitl [H3]; · iexact H3
  isplitl [H10]; · iexact H10
  iexact H11

theorem part11 {Q : FVec F S128x64 .bf16 → sProp 𝕄} :
    fill c X2 X3 16 15 ⊢ iprop((fill c X2 X3 18 17 -∗ Q (mid X3 17)) -∗ WP c (k0_part11 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 cc0_scratch9 (mid X3 15)) Q) := by
  rw [k0_part11_eq_skeleton]; unfold k0_part11_skel fill
  simp only [Prog.lift, Prog.bind_op, Prog.bind_ret, Prog.pure_eq_ret]
  iintro ⟨H2, H3, H10, H11⟩ Hk
  iapply (wp_load 𝒱₀ (c : Thread nD τ) none Set.univ (m := M11) (Finset.subset_univ _)) $$ H11; iintro H11
  iapply (st11 c 15 X3 (by rfl) (by rfl)) $$ H11; iintro H11
  iapply (wp_load 𝒱₀ (c : Thread nD τ) none Set.univ (m := M2) (Finset.subset_univ _)) $$ H2; iintro H2
  iapply (wp_load 𝒱₀ (c : Thread nD τ) none Set.univ (m := M10) (Finset.subset_univ _)) $$ H10; iintro H10
  iapply (st10 c 16 X2 (by rfl) (by rfl)) $$ H10; iintro H10
  iapply (wp_load 𝒱₀ (c : Thread nD τ) none Set.univ (m := M3) (Finset.subset_univ _)) $$ H3; iintro H3
  iapply (wp_load 𝒱₀ (c : Thread nD τ) none Set.univ (m := M11) (Finset.subset_univ _)) $$ H11; iintro H11
  iapply (st11 c 16 X3 (by rfl) (by rfl)) $$ H11; iintro H11
  iapply (wp_load 𝒱₀ (c : Thread nD τ) none Set.univ (m := M2) (Finset.subset_univ _)) $$ H2; iintro H2
  iapply (wp_load 𝒱₀ (c : Thread nD τ) none Set.univ (m := M10) (Finset.subset_univ _)) $$ H10; iintro H10
  iapply (st10 c 17 X2 (by rfl) (by rfl)) $$ H10; iintro H10
  iapply (wp_load 𝒱₀ (c : Thread nD τ) none Set.univ (m := M3) (Finset.subset_univ _)) $$ H3; iintro H3
  iapply (wp_end c (a' := (mid X3 17)) rfl); iapply Hk
  isplitl [H2]; · iexact H2
  isplitl [H3]; · iexact H3
  isplitl [H10]; · iexact H10
  iexact H11

theorem part12 {Q : PUnit → sProp 𝕄} :
    fill c X2 X3 18 17 ⊢ iprop((fill c X2 X3 20 20 -∗ Q ⟨⟩) -∗ WP c (k0_part12 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 cc0_scratch9 (mid X3 17)) Q) := by
  rw [k0_part12_eq_skeleton]; unfold k0_part12_skel fill
  simp only [Prog.lift, Prog.bind_op, Prog.bind_ret, Prog.pure_eq_ret]
  iintro ⟨H2, H3, H10, H11⟩ Hk
  iapply (wp_load 𝒱₀ (c : Thread nD τ) none Set.univ (m := M11) (Finset.subset_univ _)) $$ H11; iintro H11
  iapply (st11 c 17 X3 (by rfl) (by rfl)) $$ H11; iintro H11
  iapply (wp_load 𝒱₀ (c : Thread nD τ) none Set.univ (m := M2) (Finset.subset_univ _)) $$ H2; iintro H2
  iapply (wp_load 𝒱₀ (c : Thread nD τ) none Set.univ (m := M10) (Finset.subset_univ _)) $$ H10; iintro H10
  iapply (st10 c 18 X2 (by rfl) (by rfl)) $$ H10; iintro H10
  iapply (wp_load 𝒱₀ (c : Thread nD τ) none Set.univ (m := M3) (Finset.subset_univ _)) $$ H3; iintro H3
  iapply (wp_load 𝒱₀ (c : Thread nD τ) none Set.univ (m := M11) (Finset.subset_univ _)) $$ H11; iintro H11
  iapply (st11 c 18 X3 (by rfl) (by rfl)) $$ H11; iintro H11
  iapply (wp_load 𝒱₀ (c : Thread nD τ) none Set.univ (m := M2) (Finset.subset_univ _)) $$ H2; iintro H2
  iapply (wp_load 𝒱₀ (c : Thread nD τ) none Set.univ (m := M10) (Finset.subset_univ _)) $$ H10; iintro H10
  iapply (st10 c 19 X2 (by rfl) (by rfl)) $$ H10; iintro H10
  iapply (wp_load 𝒱₀ (c : Thread nD τ) none Set.univ (m := M3) (Finset.subset_univ _)) $$ H3; iintro H3
  iapply (wp_load 𝒱₀ (c : Thread nD τ) none Set.univ (m := M11) (Finset.subset_univ _)) $$ H11; iintro H11
  iapply (st11 c 19 X3 (by rfl) (by rfl)) $$ H11; iintro H11
  iapply (wp_end c (a' := ⟨⟩) rfl); iapply Hk
  isplitl [H2]; · iexact H2
  isplitl [H3]; · iexact H3
  isplitl [H10]; · iexact H10
  iexact H11

theorem part13 {Q : PUnit → sProp 𝕄} :
    fill c X2 X3 20 20 ⊢ iprop((fill c X2 X3 22 22 -∗ Q ⟨⟩) -∗ WP c (k0_part13 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 cc0_scratch9) Q) := by
  rw [k0_part13_eq_skeleton]; unfold k0_part13_skel fill
  simp only [Prog.lift, Prog.bind_op, Prog.bind_ret, Prog.pure_eq_ret]
  iintro ⟨H2, H3, H10, H11⟩ Hk
  iapply (wp_load 𝒱₀ (c : Thread nD τ) none Set.univ (m := M2) (Finset.subset_univ _)) $$ H2; iintro H2
  iapply (wp_load 𝒱₀ (c : Thread nD τ) none Set.univ (m := M10) (Finset.subset_univ _)) $$ H10; iintro H10
  iapply (st10 c 20 X2 (by rfl) (by rfl)) $$ H10; iintro H10
  iapply (wp_load 𝒱₀ (c : Thread nD τ) none Set.univ (m := M3) (Finset.subset_univ _)) $$ H3; iintro H3
  iapply (wp_load 𝒱₀ (c : Thread nD τ) none Set.univ (m := M11) (Finset.subset_univ _)) $$ H11; iintro H11
  iapply (st11 c 20 X3 (by rfl) (by rfl)) $$ H11; iintro H11
  iapply (wp_load 𝒱₀ (c : Thread nD τ) none Set.univ (m := M2) (Finset.subset_univ _)) $$ H2; iintro H2
  iapply (wp_load 𝒱₀ (c : Thread nD τ) none Set.univ (m := M10) (Finset.subset_univ _)) $$ H10; iintro H10
  iapply (st10 c 21 X2 (by rfl) (by rfl)) $$ H10; iintro H10
  iapply (wp_load 𝒱₀ (c : Thread nD τ) none Set.univ (m := M3) (Finset.subset_univ _)) $$ H3; iintro H3
  iapply (wp_load 𝒱₀ (c : Thread nD τ) none Set.univ (m := M11) (Finset.subset_univ _)) $$ H11; iintro H11
  iapply (st11 c 21 X3 (by rfl) (by rfl)) $$ H11; iintro H11
  iapply (wp_end c (a' := ⟨⟩) rfl); iapply Hk
  isplitl [H2]; · iexact H2
  isplitl [H3]; · iexact H3
  isplitl [H10]; · iexact H10
  iexact H11

theorem part14 {Q : FVec F S128x64 .bf16 → sProp 𝕄} :
    fill c X2 X3 22 22 ⊢ iprop((fill c X2 X3 24 24 -∗ Q (mid X2 24)) -∗ WP c (k0_part14 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 cc0_scratch9) Q) := by
  rw [k0_part14_eq_skeleton]; unfold k0_part14_skel fill
  simp only [Prog.lift, Prog.bind_op, Prog.bind_ret, Prog.pure_eq_ret]
  iintro ⟨H2, H3, H10, H11⟩ Hk
  iapply (wp_load 𝒱₀ (c : Thread nD τ) none Set.univ (m := M2) (Finset.subset_univ _)) $$ H2; iintro H2
  iapply (wp_load 𝒱₀ (c : Thread nD τ) none Set.univ (m := M10) (Finset.subset_univ _)) $$ H10; iintro H10
  iapply (st10 c 22 X2 (by rfl) (by rfl)) $$ H10; iintro H10
  iapply (wp_load 𝒱₀ (c : Thread nD τ) none Set.univ (m := M3) (Finset.subset_univ _)) $$ H3; iintro H3
  iapply (wp_load 𝒱₀ (c : Thread nD τ) none Set.univ (m := M11) (Finset.subset_univ _)) $$ H11; iintro H11
  iapply (st11 c 22 X3 (by rfl) (by rfl)) $$ H11; iintro H11
  iapply (wp_load 𝒱₀ (c : Thread nD τ) none Set.univ (m := M2) (Finset.subset_univ _)) $$ H2; iintro H2
  iapply (wp_load 𝒱₀ (c : Thread nD τ) none Set.univ (m := M10) (Finset.subset_univ _)) $$ H10; iintro H10
  iapply (st10 c 23 X2 (by rfl) (by rfl)) $$ H10; iintro H10
  iapply (wp_load 𝒱₀ (c : Thread nD τ) none Set.univ (m := M3) (Finset.subset_univ _)) $$ H3; iintro H3
  iapply (wp_load 𝒱₀ (c : Thread nD τ) none Set.univ (m := M11) (Finset.subset_univ _)) $$ H11; iintro H11
  iapply (st11 c 23 X3 (by rfl) (by rfl)) $$ H11; iintro H11
  iapply (wp_load 𝒱₀ (c : Thread nD τ) none Set.univ (m := M2) (Finset.subset_univ _)) $$ H2; iintro H2
  iapply (wp_end c (a' := (mid X2 24)) rfl); iapply Hk
  isplitl [H2]; · iexact H2
  isplitl [H3]; · iexact H3
  isplitl [H10]; · iexact H10
  iexact H11

theorem part15 {Q : FVec F S128x64 .bf16 → sProp 𝕄} :
    fill c X2 X3 24 24 ⊢ iprop((fill c X2 X3 26 26 -∗ Q (mid X2 26)) -∗ WP c (k0_part15 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 cc0_scratch9 (mid X2 24)) Q) := by
  rw [k0_part15_eq_skeleton]; unfold k0_part15_skel fill
  simp only [Prog.lift, Prog.bind_op, Prog.bind_ret, Prog.pure_eq_ret]
  iintro ⟨H2, H3, H10, H11⟩ Hk
  iapply (wp_load 𝒱₀ (c : Thread nD τ) none Set.univ (m := M10) (Finset.subset_univ _)) $$ H10; iintro H10
  iapply (st10 c 24 X2 (by rfl) (by rfl)) $$ H10; iintro H10
  iapply (wp_load 𝒱₀ (c : Thread nD τ) none Set.univ (m := M3) (Finset.subset_univ _)) $$ H3; iintro H3
  iapply (wp_load 𝒱₀ (c : Thread nD τ) none Set.univ (m := M11) (Finset.subset_univ _)) $$ H11; iintro H11
  iapply (st11 c 24 X3 (by rfl) (by rfl)) $$ H11; iintro H11
  iapply (wp_load 𝒱₀ (c : Thread nD τ) none Set.univ (m := M2) (Finset.subset_univ _)) $$ H2; iintro H2
  iapply (wp_load 𝒱₀ (c : Thread nD τ) none Set.univ (m := M10) (Finset.subset_univ _)) $$ H10; iintro H10
  iapply (st10 c 25 X2 (by rfl) (by rfl)) $$ H10; iintro H10
  iapply (wp_load 𝒱₀ (c : Thread nD τ) none Set.univ (m := M3) (Finset.subset_univ _)) $$ H3; iintro H3
  iapply (wp_load 𝒱₀ (c : Thread nD τ) none Set.univ (m := M11) (Finset.subset_univ _)) $$ H11; iintro H11
  iapply (st11 c 25 X3 (by rfl) (by rfl)) $$ H11; iintro H11
  iapply (wp_load 𝒱₀ (c : Thread nD τ) none Set.univ (m := M2) (Finset.subset_univ _)) $$ H2; iintro H2
  iapply (wp_load 𝒱₀ (c : Thread nD τ) none Set.univ (m := M10) (Finset.subset_univ _)) $$ H10; iintro H10
  iapply (wp_end c (a' := (mid X2 26)) rfl); iapply Hk
  isplitl [H2]; · iexact H2
  isplitl [H3]; · iexact H3
  isplitl [H10]; · iexact H10
  iexact H11

theorem part16 {Q : PUnit → sProp 𝕄} :
    fill c X2 X3 26 26 ⊢ iprop((fill c X2 X3 29 28 -∗ Q ⟨⟩) -∗ WP c (k0_part16 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 cc0_scratch9 (mid X2 26)) Q) := by
  rw [k0_part16_eq_skeleton]; unfold k0_part16_skel fill
  simp only [Prog.lift, Prog.bind_op, Prog.bind_ret, Prog.pure_eq_ret]
  iintro ⟨H2, H3, H10, H11⟩ Hk
  iapply (st10 c 26 X2 (by rfl) (by rfl)) $$ H10; iintro H10
  iapply (wp_load 𝒱₀ (c : Thread nD τ) none Set.univ (m := M3) (Finset.subset_univ _)) $$ H3; iintro H3
  iapply (wp_load 𝒱₀ (c : Thread nD τ) none Set.univ (m := M11) (Finset.subset_univ _)) $$ H11; iintro H11
  iapply (st11 c 26 X3 (by rfl) (by rfl)) $$ H11; iintro H11
  iapply (wp_load 𝒱₀ (c : Thread nD τ) none Set.univ (m := M2) (Finset.subset_univ _)) $$ H2; iintro H2
  iapply (wp_load 𝒱₀ (c : Thread nD τ) none Set.univ (m := M10) (Finset.subset_univ _)) $$ H10; iintro H10
  iapply (st10 c 27 X2 (by rfl) (by rfl)) $$ H10; iintro H10
  iapply (wp_load 𝒱₀ (c : Thread nD τ) none Set.univ (m := M3) (Finset.subset_univ _)) $$ H3; iintro H3
  iapply (wp_load 𝒱₀ (c : Thread nD τ) none Set.univ (m := M11) (Finset.subset_univ _)) $$ H11; iintro H11
  iapply (st11 c 27 X3 (by rfl) (by rfl)) $$ H11; iintro H11
  iapply (wp_load 𝒱₀ (c : Thread nD τ) none Set.univ (m := M2) (Finset.subset_univ _)) $$ H2; iintro H2
  iapply (wp_load 𝒱₀ (c : Thread nD τ) none Set.univ (m := M10) (Finset.subset_univ _)) $$ H10; iintro H10
  iapply (st10 c 28 X2 (by rfl) (by rfl)) $$ H10; iintro H10
  iapply (wp_end c (a' := ⟨⟩) rfl); iapply Hk
  isplitl [H2]; · iexact H2
  isplitl [H3]; · iexact H3
  isplitl [H10]; · iexact H10
  iexact H11

theorem part17 {Q : FVec F S128x64 .bf16 → sProp 𝕄} :
    fill c X2 X3 29 28 ⊢ iprop((fill c X2 X3 31 30 -∗ Q (mid X3 30)) -∗ WP c (k0_part17 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 cc0_scratch9) Q) := by
  rw [k0_part17_eq_skeleton]; unfold k0_part17_skel fill
  simp only [Prog.lift, Prog.bind_op, Prog.bind_ret, Prog.pure_eq_ret]
  iintro ⟨H2, H3, H10, H11⟩ Hk
  iapply (wp_load 𝒱₀ (c : Thread nD τ) none Set.univ (m := M3) (Finset.subset_univ _)) $$ H3; iintro H3
  iapply (wp_load 𝒱₀ (c : Thread nD τ) none Set.univ (m := M11) (Finset.subset_univ _)) $$ H11; iintro H11
  iapply (st11 c 28 X3 (by rfl) (by rfl)) $$ H11; iintro H11
  iapply (wp_load 𝒱₀ (c : Thread nD τ) none Set.univ (m := M2) (Finset.subset_univ _)) $$ H2; iintro H2
  iapply (wp_load 𝒱₀ (c : Thread nD τ) none Set.univ (m := M10) (Finset.subset_univ _)) $$ H10; iintro H10
  iapply (st10 c 29 X2 (by rfl) (by rfl)) $$ H10; iintro H10
  iapply (wp_load 𝒱₀ (c : Thread nD τ) none Set.univ (m := M3) (Finset.subset_univ _)) $$ H3; iintro H3
  iapply (wp_load 𝒱₀ (c : Thread nD τ) none Set.univ (m := M11) (Finset.subset_univ _)) $$ H11; iintro H11
  iapply (st11 c 29 X3 (by rfl) (by rfl)) $$ H11; iintro H11
  iapply (wp_load 𝒱₀ (c : Thread nD τ) none Set.univ (m := M2) (Finset.subset_univ _)) $$ H2; iintro H2
  iapply (wp_load 𝒱₀ (c : Thread nD τ) none Set.univ (m := M10) (Finset.subset_univ _)) $$ H10; iintro H10
  iapply (st10 c 30 X2 (by rfl) (by rfl)) $$ H10; iintro H10
  iapply (wp_load 𝒱₀ (c : Thread nD τ) none Set.univ (m := M3) (Finset.subset_univ _)) $$ H3; iintro H3
  iapply (wp_end c (a' := (mid X3 30)) rfl); iapply Hk
  isplitl [H2]; · iexact H2
  isplitl [H3]; · iexact H3
  isplitl [H10]; · iexact H10
  iexact H11

end Cert.KernelIdealRun

end
-- ==== Proof.Out.lean ====
/-
# What the body leaves in its output block

The values the body passes from window to window of its cut, as functions of what it reads: the device's own blocks of
the inputs, the block-diagonal buffers filled from the keys and the values, its own and its peers' projection blocks.
-/
module

public import proofs.«01_k».proof.Proof.Fill

@[expose] public section

set_option synthInstance.maxSize 4096

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- What one device reads: its rows of the input, the keys, the values, and every device's block of the two projections. -/
structure Ins (F : FTy → Type) where
  x : Vec F S2x128x512 .bf16
  k : Vec F S2x128x16x64 .bf16
  v : Vec F S2x128x16x64 .bf16
  q : Dev nD → Vec F S512x256 .bf16
  o : Dev nD → Vec F S256x512 .bf16

/-- The device's place in the ring, as the body computes it. -/
def w2 (c : Dev nD) : BitVec 32 := Scalar.remsi (Scalar.divsi (Dev.word c) 1#32) 4#32

abbrev i0 : IVec S128x512 32 := iota .tc S128x512 32 [0] iota_S128x512_d0_w32
abbrev i1 : IVec S128x512 32 := iota .tc S128x512 32 [1] iota_S128x512_d1_w32

/-- The four words the mask is built of. -/
def p436 (c : Dev nD) : IVec S128x512 32 := k0_pay83 i0 (Scalar.muli (w2 c) 2#32) 64#32 k0_pay80 k0_pay81 k0_pay82
def p462 : IVec S128x512 32 := k0_pay84 i1
def p463 (c : Dev nD) : IVec S128x512 1 := k0_pay85 i0 i1 (Scalar.muli (w2 c) 2#32) 64#32 k0_pay80 k0_pay81 k0_pay82
def p465 : IVec S128x512 1 := k0_pay86 i1
/-- The mask, a number to add to a score. -/
def p475 (c : Dev nD) : FVec F S128x512 .f32 := k0_pay87 (F := F) (p436 c) p462 (p463 c) p465

/-- One panel of a filled buffer, at the offset it is loaded at. -/
def bdr (X : Vec F S2x128x16x64 .bf16) (off : Fin 4 → ℕ) (inb : ∀ a, off a + S1x1x512x256.size a ≤ S2x4x512x256.size a) : Vec F S1x1x512x256 .bf16 :=
  M10.view.readAt (Elt F) (Rect.unit (s := S2x4x512x256) off S1x1x512x256.size inb).toLoadRect (bd X 32)

def sQ (q : Vec F S512x256 .bf16) : Vec F S1x512x256 .bf16 := shapeCast S1x512x256 q shapeCasts_Q1
def sO (o : Vec F S256x512 .bf16) : Vec F S1x256x512 .bf16 := shapeCast S1x256x512 o shapeCasts_O1

section Chain
variable (c : Dev nD) (I : Ins F)

/-- The input, scaled. -/
def o407 : FVec F S256x512 .bf16 := k0_pay79 I.x
/-- The device's own heads, -/
def o498 : FVec F S128x256 .bf16 := k0_pay90 (o407 I) (p436 c) p462 (p463 c) p465 (I.q c) (bdr I.k (k0_off6 c) (k0_off6_inb c)) (bdr I.v (k0_off6 c) (k0_off6_inb c))
def o504 : FVec F S128x512 .f32 := k0_pay91 (o407 I) (p436 c) p462 (p463 c) p465 (I.q c) (bdr I.k (k0_off7 c) (k0_off7_inb c))
def o521 : FVec F S256x512 .f32 := k0_pay92 k0_pay88 (o498 c I) (o504 c I) (bdr I.v (k0_off7 c) (k0_off7_inb c)) (I.o c)
/-- its left neighbour's, -/
def o534 : FVec F S256x256 .bf16 := k0_pay93 (o407 I) (sQ (I.q (lf c)))
def o542 : FVec F S128x4x128 .f32 := k0_pay94 (o407 I) (p475 c) (sQ (I.q (lf c))) (bdr I.k (k0_off10 c) (k0_off10_inb c))
def o573 : FVec F S256x256 .bf16 := k0_pay95 (p475 c) (o534 c I) (o542 c I) (bdr I.v (k0_off10 c) (k0_off10_inb c)) (bdr I.k (k0_off11 c) (k0_off11_inb c)) (bdr I.v (k0_off11 c) (k0_off11_inb c))
def o586 : FVec F S256x512 .f32 := k0_pay96 (o521 c I) (o573 c I) (sO (I.o (lf c)))
/-- its right neighbour's, -/
def o618 : FVec F S128x256 .bf16 := k0_pay98 (o407 I) (p475 c) (sQ (I.q (rt c))) (bdr I.k (k0_off16 c 1#32) (k0_off16_inb c 0)) (bdr I.v (k0_off16 c 1#32) (k0_off16_inb c 0))
def o619 : FVec F S128x256 .bf16 := k0_pay99 (o407 I) (sQ (I.q (rt c)))
def o651 : FVec F S256x512 .f32 := k0_pay100 (p475 c) (o586 c I) (o618 c I) (o619 c I) (bdr I.k (k0_off17 c 1#32) (k0_off17_inb c 0)) (bdr I.v (k0_off17 c 1#32) (k0_off17_inb c 0)) (sO (I.o (rt c)))
/-- and those of the device across. -/
def o683 : FVec F S128x256 .bf16 := k0_pay102 (o407 I) (p475 c) (sQ (I.q (op c))) (bdr I.k (k0_off16 c 2#32) (k0_off16_inb c 1)) (bdr I.v (k0_off16 c 2#32) (k0_off16_inb c 1))
def o696 : FVec F S128x512 .f32 := k0_pay103 (o407 I) (p475 c) (sQ (I.q (op c))) (bdr I.k (k0_off17 c 2#32) (k0_off17_inb c 1))
def o716 : FVec F S256x512 .f32 := k0_pay104 (o651 c I) (o683 c I) (o696 c I) (bdr I.v (k0_off17 c 2#32) (k0_off17_inb c 1)) (sO (I.o (op c)))
/-- The block the body stores. -/
def outV : Vec F S2x128x512 .f32 := k0_pay1 (o716 c I)

end Chain

end Cert.KernelIdealRun

end
-- ==== Proof.Body1.lean ====
/-
# The body's windows with effects: signals, sends, the last stores

The signals, the wait on the barrier and the six sends (windows 1 to 3), and the end of the fill (window 18).
-/
module

public import proofs.«01_k».proof.Proof.Out

@[expose] public section

set_option synthInstance.maxSize 4096

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)
variable (K : Dev nD × CKey → ℕ) (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- What device `c` hands device `p` with its signal. -/
def sigRes (p : Dev nD) : sProp 𝕄 := iprop(dutyTok ER (barCell p) 0 c ∗ slotAny (F := F) c p false ∗ slotAny (F := F) c p true)

/-- The device's own barrier cell, before its wait. -/
def barPend : sProp 𝕄 := iprop(cred (tallyAt (barCell c) () 3) ∗ atPos ER (barCell c) 0 ∅ 0)

set_option maxHeartbeats 1000000 in
theorem part1 {Q : (Σ' (d0 : Dev nD) (v2 : BitVec 32) (v5 : BitVec 32) (v7 : BitVec 32) (v9 : BitVec 32), Sems sig S_) → sProp 𝕄}
    (f6 : (cc0_scratch0 : Ref sig .tc).ty.Contents (Elt F)) (f7 : (cc0_scratch1 : Ref sig .tc).ty.Contents (Elt F)) :
    iprop(records m ρ K ∗ owesE c (O₀ c) ∗ sigRes (F := F) c (lf c) ∗ sigRes (F := F) c (rt c) ∗ sigRes (F := F) c (op c)
        ∗ held c M1 fullShare (stgQ m ρ c) ∗ held c M4 fullShare (stgO m ρ c) ∗ held c M6 fullShare f6 ∗ held c M7 fullShare f7)
      ⊢ iprop(((owesE c (O₃ c) ∗ held c M1 fullShare (stgQ m ρ c) ∗ held c M4 fullShare (stgO m ρ c)
            ∗ held c M6 fullShare (qB m ρ c) ∗ held c M7 fullShare (oB m ρ c)) -∗ ∀ v5, ∀ v7, ∀ v9, Q ⟨c, w2 c, v5, v7, v9, SemArray.scalar (sig.barrier 0 rfl)⟩)
          -∗ WP c (k0_part1 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 cc0_scratch9) Q) := by
  rw [k0_part1_eq_skeleton]; unfold k0_part1_skel sigRes
  simp only [semSignalWord, Prog.lift, Prog.bind_op, Prog.bind_ret, Prog.pure_eq_ret, wp_deviceId]
  simp only [dev1_eq c, dev2_eq c, dev3_eq c]
  iintro ⟨#HR, HO, ⟨Ht1, Ha1, Hb1⟩, ⟨Ht2, Ha2, Hb2⟩, ⟨Ht3, Ha3, Hb3⟩, H1, H4, H6, H7⟩ Hk
  iapply (wp_sig m ρ K c _ (lf c) rfl (lf_ne c) (O₀ c) (O₁ c) rfl) $$ [HO Ht1 Ha1 Hb1]
  · isplitr; · iexact HR
    isplitl [HO]; · iexact HO
    isplitl [Ht1]; · iexact Ht1
    isplitl [Ha1] <;> iassumption
  iintro HO
  iapply (wp_sig m ρ K c _ (rt c) rfl (rt_ne c) (O₁ c) (O₂ c) rfl) $$ [HO Ht2 Ha2 Hb2]
  · isplitr; · iexact HR
    isplitl [HO]; · iexact HO
    isplitl [Ht2]; · iexact Ht2
    isplitl [Ha2] <;> iassumption
  iintro HO
  iapply (wp_sig m ρ K c _ (op c) rfl (op_ne c) (O₂ c) (O₃ c) rfl) $$ [HO Ht3 Ha3 Hb3]
  · isplitr; · iexact HR
    isplitl [HO]; · iexact HO
    isplitl [Ht3]; · iexact Ht3
    isplitl [Ha3] <;> iassumption
  iintro HO
  iapply (wp_load 𝒱₀ (c : Thread nD τ) none Set.univ (m := M1) (Finset.subset_univ _)) $$ H1; iintro H1
  iapply (wp_load 𝒱₀ (c : Thread nD τ) none Set.univ (m := M6) (Finset.subset_univ _)) $$ H6; iintro H6
  iapply (wp_store 𝒱₀ (c : Thread nD τ) none Set.univ (m := M6) (r := Rect.unit (s := S512x256) ![0, 0] S512x256.size inb_S512x256_S512x256_0_0) (Mk := Finset.univ) (Finset.subset_univ _)) $$ H6; iintro H6
  iapply (wp_load 𝒱₀ (c : Thread nD τ) none Set.univ (m := M4) (Finset.subset_univ _)) $$ H4; iintro H4
  iapply (wp_load 𝒱₀ (c : Thread nD τ) none Set.univ (m := M7) (Finset.subset_univ _)) $$ H7; iintro H7
  iapply (wp_store 𝒱₀ (c : Thread nD τ) none Set.univ (m := M7) (r := Rect.unit (s := S256x512) ![0, 0] S256x512.size inb_S256x512_S256x512_0_0) (Mk := Finset.univ) (Finset.subset_univ _)) $$ H7; iintro H7
  rw [show ∀ v, (M6.access (Rect.unit (s := S512x256) ![0, 0] S512x256.size inb_S512x256_S512x256_0_0)).write (Elt F) f6 v Finset.univ = v from fun v => Memref.write_access_unit_zero_univ (Elt F) cc0_scratch0 hz2 _ f6 v,
    show ∀ v, (M7.access (Rect.unit (s := S256x512) ![0, 0] S256x512.size inb_S256x512_S256x512_0_0)).write (Elt F) f7 v Finset.univ = v from fun v => Memref.write_access_unit_zero_univ (Elt F) cc0_scratch1 hz2 _ f7 v,
    show M1.view.readAt (Elt F) (Rect.unit (s := S512x256) ![0, 0] S512x256.size inb_S512x256_S512x256_0_0).toLoadRect (stgQ m ρ c) = stgQ m ρ c from Memref.readAt_unit_zero (Elt F) cc0_stg1_0 hz2 _ _,
    show M4.view.readAt (Elt F) (Rect.unit (s := S256x512) ![0, 0] S256x512.size inb_S256x512_S256x512_0_0).toLoadRect (stgO m ρ c) = stgO m ρ c from Memref.readAt_unit_zero (Elt F) cc0_stg4_0 hz2 _ _]
  ihave Hq := Hk $$ [HO H1 H4 H6 H7]
  · isplitl [HO]; · iexact HO
    isplitl [H1]; · iexact H1
    isplitl [H4]; · iexact H4
    isplitl [H6]; · iexact H6
    iexact H7
  iapply (wp_end c (a' := ⟨c, w2 c, Scalar.remsi (Scalar.subi (Scalar.addi (w2 c) 4#32) 1#32) 4#32, Scalar.remsi (Scalar.addi (w2 c) 1#32) 4#32, Scalar.remsi (Scalar.addi (w2 c) 2#32) 4#32, SemArray.scalar (sig.barrier 0 rfl)⟩) (by rfl))
  iapply Hq $$ %_ %_ %_

set_option maxHeartbeats 1000000 in
theorem part2 (v5 v7 v9 : BitVec 32) {Q : PUnit → sProp 𝕄} :
    iprop(records m ρ K ∗ levAts L lv ∗ owesE c (O₃ c) ∗ barPend (F := F) c
        ∗ sendRes m ρ c (op c) false ∗ sendRes m ρ c (rt c) false ∗ sendRes m ρ c (lf c) false ∗ sendRes m ρ c (op c) true)
      ⊢ iprop(((owesE c (O₇ c) ∗ semVal (barCell c) 0 ∗ slotAny (F := F) (rt c) c true ∗ slotAny (F := F) (lf c) c true
            ∗ pend (F := F) c (op c) false false ∗ pend (F := F) c (rt c) false false ∗ pend (F := F) c (lf c) false false ∗ pend (F := F) c (op c) false true) -∗ Q ⟨⟩)
          -∗ WP c (k0_part2 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 cc0_scratch9 c v5 v7 v9 (SemArray.scalar (sig.barrier 0 rfl))) Q) := by
  rw [k0_part2_eq_skeleton]; unfold k0_part2_skel barPend
  simp only [semWaitWord, Prog.lift, Prog.bind_op, Prog.bind_ret, Prog.pure_eq_ret]
  iintro ⟨#HR, #Hlev, HO, ⟨Hc, Hat⟩, Hs1, Hs2, Hs3, Hs4⟩ Hk
  iapply (wp_bar m ρ K c) $$ [HO Hc Hat]
  · isplitr; · iexact HR
    isplitr; · iexact Hlev
    isplitl [HO]; · iexact HO
    isplitl [Hc] <;> iassumption
  unfold barPay
  iintro ⟨HO, Hz, ⟨Hlq, Hlo⟩, ⟨Hrq, Hro⟩, ⟨Hoq, Hoo⟩⟩
  iapply (wp_sendQ m ρ K c _ (op c) (dev4_eq c) (op_ne c) (sem_op _ c) rfl (O₃ c) (O₄ c) rfl) $$ [HO Hs1 Hoq]
  · isplitr; · iexact HR
    isplitl [HO]; · iexact HO
    isplitl [Hs1] <;> iassumption
  iintro ⟨HO, Hp1⟩
  iapply (wp_sendQ m ρ K c _ (rt c) (dev5_eq c) (rt_ne c) (sem_rt _ c) rfl (O₄ c) (O₅ c) rfl) $$ [HO Hs2 Hrq]
  · isplitr; · iexact HR
    isplitl [HO]; · iexact HO
    isplitl [Hs2] <;> iassumption
  iintro ⟨HO, Hp2⟩
  iapply (wp_sendQ m ρ K c _ (lf c) (dev6_eq c) (lf_ne c) (sem_lf _ c) rfl (O₅ c) (O₆ c) rfl) $$ [HO Hs3 Hlq]
  · isplitr; · iexact HR
    isplitl [HO]; · iexact HO
    isplitl [Hs3] <;> iassumption
  iintro ⟨HO, Hp3⟩
  iapply (wp_sendO m ρ K c _ (op c) (dev7_eq c) (op_ne c) (sem_op _ c) rfl (O₆ c) (O₇ c) rfl) $$ [HO Hs4 Hoo]
  · isplitr; · iexact HR
    isplitl [HO]; · iexact HO
    isplitl [Hs4] <;> iassumption
  iintro ⟨HO, Hp4⟩
  iapply (wp_end c rfl)
  iapply Hk
  isplitl [HO]; · iexact HO
  isplitl [Hz]; · iexact Hz
  isplitl [Hro]; · iexact Hro
  isplitl [Hlo]; · iexact Hlo
  isplitl [Hp1]; · iexact Hp1
  isplitl [Hp2]; · iexact Hp2
  isplitl [Hp3] <;> iassumption

set_option maxHeartbeats 1000000 in
theorem part3 (v5 : BitVec 32) (X2 X3 : Vec F S2x128x16x64 .bf16) (f10 f11 : Vec F S2x4x512x256 .bf16) {Q : FVec F S128x64 .bf16 → sProp 𝕄} :
    iprop(records m ρ K ∗ owesE c (O₇ c) ∗ slotAny (F := F) (rt c) c true ∗ slotAny (F := F) (lf c) c true ∗ sendRes m ρ c (rt c) true ∗ sendRes m ρ c (lf c) true
        ∗ held c M2 fullShare X2 ∗ held c M3 fullShare X3 ∗ held c M10 fullShare f10 ∗ held c M11 fullShare f11)
      ⊢ iprop(((owesE c 0 ∗ pend (F := F) c (rt c) false true ∗ pend (F := F) c (lf c) false true ∗ fill c X2 X3 1 0) -∗ Q (mid X3 0))
          -∗ WP c (k0_part3 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 cc0_scratch9 c v5) Q) := by
  rw [k0_part3_eq_skeleton]; unfold k0_part3_skel fill
  simp only [Prog.lift, Prog.bind_op, Prog.bind_ret, Prog.pure_eq_ret]
  iintro ⟨#HR, HO, Hro, Hlo, Hs1, Hs2, H2, H3, H10, H11⟩ Hk
  iapply (wp_sendO m ρ K c _ (rt c) (dev8_eq c) (rt_ne c) (sem_rt _ c) rfl (O₇ c) (O₈ c) rfl) $$ [HO Hs1 Hro]
  · isplitr; · iexact HR
    isplitl [HO]; · iexact HO
    isplitl [Hs1] <;> iassumption
  iintro ⟨HO, Hp1⟩
  iapply (wp_sendO m ρ K c _ (lf c) (dev9_eq c) (lf_ne c) (sem_lf _ c) rfl (O₈ c) 0 rfl) $$ [HO Hs2 Hlo]
  · isplitr; · iexact HR
    isplitl [HO]; · iexact HO
    isplitl [Hs2] <;> iassumption
  iintro ⟨HO, Hp2⟩
  iapply (wp_load 𝒱₀ (c : Thread nD τ) none Set.univ (m := M10) (Finset.subset_univ _)) $$ H10; iintro H10
  iapply (wp_store 𝒱₀ (c : Thread nD τ) none Set.univ (m := M10) (r := Rect.unit (s := S2x4x512x256) ![0, 0, 0, 0] S2x4x512x256.size inb_S2x4x512x256_S2x4x512x256_0_0_0_0) (Mk := Finset.univ) (Finset.subset_univ _)) $$ H10; iintro H10
  iapply (wp_load 𝒱₀ (c : Thread nD τ) none Set.univ (m := M11) (Finset.subset_univ _)) $$ H11; iintro H11
  iapply (wp_store 𝒱₀ (c : Thread nD τ) none Set.univ (m := M11) (r := Rect.unit (s := S2x4x512x256) ![0, 0, 0, 0] S2x4x512x256.size inb_S2x4x512x256_S2x4x512x256_0_0_0_0) (Mk := Finset.univ) (Finset.subset_univ _)) $$ H11; iintro H11
  rw [show (M10.access (Rect.unit (s := S2x4x512x256) ![0, 0, 0, 0] S2x4x512x256.size inb_S2x4x512x256_S2x4x512x256_0_0_0_0)).write (Elt F) f10 (k0_pay4 (F := F)) Finset.univ = bd X2 0 from Memref.write_access_unit_zero_univ (Elt F) cc0_scratch4 hz4 _ f10 _,
    show (M11.access (Rect.unit (s := S2x4x512x256) ![0, 0, 0, 0] S2x4x512x256.size inb_S2x4x512x256_S2x4x512x256_0_0_0_0)).write (Elt F) f11 (k0_pay5 (F := F)) Finset.univ = bd X3 0 from Memref.write_access_unit_zero_univ (Elt F) cc0_scratch5 hz4 _ f11 _]
  iapply (wp_load 𝒱₀ (c : Thread nD τ) none Set.univ (m := M2) (Finset.subset_univ _)) $$ H2; iintro H2
  iapply (wp_load 𝒱₀ (c : Thread nD τ) none Set.univ (m := M10) (Finset.subset_univ _)) $$ H10; iintro H10
  iapply (st10 c 0 X2 (by rfl) (by rfl)) $$ H10; iintro H10
  iapply (wp_load 𝒱₀ (c : Thread nD τ) none Set.univ (m := M3) (Finset.subset_univ _)) $$ H3; iintro H3
  iapply (wp_end c (a' := mid X3 0) rfl)
  iapply Hk
  isplitl [HO]; · iexact HO
  isplitl [Hp1]; · iexact Hp1
  isplitl [Hp2]; · iexact Hp2
  isplitl [H2]; · iexact H2
  isplitl [H3]; · iexact H3
  isplitl [H10] <;> iassumption

set_option maxHeartbeats 1000000 in
theorem part18 (I : Ins F) (v2 : BitVec 32) {Q : (Σ' (v407 : FVec F S256x512 .bf16) (v408 : IVec S128x512 32) (v409 : IVec S128x512 32) (v410 : BitVec 32) (c64_i32 : BitVec 32) (v412 : IVec S128x512 32) (v415 : IVec S128x512 32), IVec S128x512 32) → sProp 𝕄} :
    iprop(fill c I.k I.v 31 30 ∗ held c M0 fullShare I.x)
      ⊢ iprop(((fill c I.k I.v 32 32 ∗ held c M0 fullShare I.x) -∗ Q ⟨o407 I, i0, i1, Scalar.muli v2 2#32, 64#32, k0_pay80, k0_pay81, k0_pay82⟩)
          -∗ WP c (k0_part18 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 cc0_scratch9 v2 (mid I.v 30)) Q) := by
  rw [k0_part18_eq_skeleton]; unfold k0_part18_skel fill
  simp only [Prog.lift, Prog.bind_op, Prog.bind_ret, Prog.pure_eq_ret]
  iintro ⟨⟨H2, H3, H10, H11⟩, H0⟩ Hk
  iapply (wp_load 𝒱₀ (c : Thread nD τ) none Set.univ (m := M11) (Finset.subset_univ _)) $$ H11; iintro H11
  iapply (st11 c 30 I.v (by rfl) (by rfl)) $$ H11; iintro H11
  iapply (wp_load 𝒱₀ (c : Thread nD τ) none Set.univ (m := M2) (Finset.subset_univ _)) $$ H2; iintro H2
  iapply (wp_load 𝒱₀ (c : Thread nD τ) none Set.univ (m := M10) (Finset.subset_univ _)) $$ H10; iintro H10
  iapply (st10 c 31 I.k (by rfl) (by rfl)) $$ H10; iintro H10
  iapply (wp_load 𝒱₀ (c : Thread nD τ) none Set.univ (m := M3) (Finset.subset_univ _)) $$ H3; iintro H3
  iapply (wp_load 𝒱₀ (c : Thread nD τ) none Set.univ (m := M11) (Finset.subset_univ _)) $$ H11; iintro H11
  iapply (st11 c 31 I.v (by rfl) (by rfl)) $$ H11; iintro H11
  iapply (wp_load 𝒱₀ (c : Thread nD τ) none Set.univ (m := M0) (Finset.subset_univ _)) $$ H0; iintro H0
  rw [show M0.view.readAt (Elt F) (Rect.unit (s := S2x128x512) ![0, 0, 0] S2x128x512.size inb_S2x128x512_S2x128x512_0_0_0).toLoadRect I.x = I.x from Memref.readAt_unit_zero (Elt F) cc0_stg0_0 hz3 _ _]
  iapply (wp_end c (a' := ⟨o407 I, i0, i1, Scalar.muli v2 2#32, 64#32, k0_pay80, k0_pay81, k0_pay82⟩) (by rfl))
  iapply Hk
  isplitl [H2 H3 H10 H11]
  · isplitl [H2]; · iexact H2
    isplitl [H3]; · iexact H3
    isplitl [H10] <;> iassumption
  iexact H0

end Cert.KernelIdealRun

end
-- ==== Proof.Body2.lean ====
/-
# The body's windows of arithmetic

Each loads panels of the filled buffers, waits for a peer's block where it is used, and computes (windows 20 to 26).
-/
module

public import proofs.«01_k».proof.Proof.Body1

@[expose] public section

set_option synthInstance.maxSize 4096

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)
variable (K : Dev nD × CKey → ℕ) (c : Dev nD)

/-- What device `c`'s body reads. -/
def ins : Ins F where
  x := (win0_0.blk (0 : Fin 1)).view.read (Elt F) ((s₀ m ρ).mem ((c : Thread nD τ).loc main_arg0))
  k := (win0_2.blk (0 : Fin 1)).view.read (Elt F) ((s₀ m ρ).mem ((c : Thread nD τ).loc main_arg2))
  v := (win0_3.blk (0 : Fin 1)).view.read (Elt F) ((s₀ m ρ).mem ((c : Thread nD τ).loc main_arg3))
  q := qB m ρ
  o := oB m ρ

theorem off9_lf : k0_off9 c = k0_off3 (lf c) := by revert c; decide +kernel
theorem off13_lf : k0_off13 c = k0_off5 (lf c) := by revert c; decide +kernel
theorem off15_rt : k0_off15 c 1#32 = k0_off3 (rt c) := by revert c; decide +kernel
theorem off15_op : k0_off15 c 2#32 = k0_off3 (op c) := by revert c; decide +kernel
theorem off19_rt : k0_off19 c 1#32 = k0_off5 (rt c) := by revert c; decide +kernel
theorem off19_op : k0_off19 c 2#32 = k0_off5 (op c) := by revert c; decide +kernel

set_option maxHeartbeats 1000000 in
theorem part20 {Q : (Σ' (v475 : FVec F S128x512 .f32) (v476 : FVec F S256x512 .f32) (v498 : FVec F S128x256 .bf16), FVec F S128x512 .f32) → sProp 𝕄} :
    iprop(srcTok m ρ c c false ∗ fill c (ins m ρ c).k (ins m ρ c).v 32 32)
      ⊢ iprop(((srcTok m ρ c c false ∗ fill c (ins m ρ c).k (ins m ρ c).v 32 32) -∗ Q ⟨p475 c, k0_pay88, o498 c (ins m ρ c), o504 c (ins m ρ c)⟩)
          -∗ WP c (k0_part20 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 cc0_scratch9 c (w2 c) (o407 (ins m ρ c)) (p436 c) p462 (p463 c) p465) Q) := by
  rw [k0_part20_eq_skeleton]; unfold k0_part20_skel fill
  simp only [Prog.lift, Prog.bind_op, Prog.bind_ret, Prog.pure_eq_ret]
  iintro ⟨H6, H2, H3, H10, H11⟩ Hk
  ihave H6 := (show srcTok m ρ c c false ⊢ (M6.view.loc (c : Thread nD τ) ↦[M6.view.set]{shr c c} qB m ρ c) from .rfl) $$ H6
  iapply (wp_load 𝒱₀ (c : Thread nD τ) none Set.univ (m := M6) (View.setOn_subset_set _ _)) $$ H6; iintro H6
  iapply (wp_load 𝒱₀ (c : Thread nD τ) none Set.univ (m := M10) (Finset.subset_univ _)) $$ H10; iintro H10
  iapply (wp_load 𝒱₀ (c : Thread nD τ) none Set.univ (m := M11) (Finset.subset_univ _)) $$ H11; iintro H11
  iapply (wp_load 𝒱₀ (c : Thread nD τ) none Set.univ (m := M10) (Finset.subset_univ _)) $$ H10; iintro H10
  rw [show M6.view.readAt (Elt F) (Rect.unit (s := S512x256) ![0, 0] S512x256.size inb_S512x256_S512x256_0_0).toLoadRect (qB m ρ c) = qB m ρ c from Memref.readAt_unit_zero (Elt F) cc0_scratch0 hz2 _ _]
  ihave H6 := (show (M6.view.loc (c : Thread nD τ) ↦[M6.view.set]{shr c c} qB m ρ c) ⊢ srcTok m ρ c c false from .rfl) $$ H6
  iapply (wp_end c (a' := ⟨p475 c, k0_pay88, o498 c (ins m ρ c), o504 c (ins m ρ c)⟩) (by rfl))
  iapply Hk
  isplitl [H6]; · iexact H6
  isplitl [H2]; · iexact H2
  isplitl [H3]; · iexact H3
  isplitl [H10] <;> iassumption

set_option maxHeartbeats 1000000 in
theorem part21 (v5 : BitVec 32) {Q : (Σ' (v521 : FVec F S256x512 .f32) (v534 : FVec F S256x256 .bf16), FVec F S128x4x128 .f32) → sProp 𝕄} :
    iprop(records m ρ K ∗ owesE c 0 ∗ srcTok m ρ c c true ∗ pend (F := F) c (lf c) true false ∗ fill c (ins m ρ c).k (ins m ρ c).v 32 32)
      ⊢ iprop(((owesE c 0 ∗ srcTok m ρ c c true ∗ done m ρ c (lf c) true false ∗ fill c (ins m ρ c).k (ins m ρ c).v 32 32) -∗ Q ⟨o521 c (ins m ρ c), o534 c (ins m ρ c), o542 c (ins m ρ c)⟩)
          -∗ WP c (k0_part21 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 cc0_scratch9 c (w2 c) v5 (o407 (ins m ρ c)) (p475 c) k0_pay88 (o498 c (ins m ρ c)) (o504 c (ins m ρ c))) Q) := by
  rw [k0_part21_eq_skeleton]; unfold k0_part21_skel fill
  simp only [Prog.lift, Prog.bind_op, Prog.bind_ret, Prog.pure_eq_ret]
  iintro ⟨#HR, HO, H7, Hrlfq, H2, H3, H10, H11⟩ Hk
  ihave H7 := (show srcTok m ρ c c true ⊢ (M7.view.loc (c : Thread nD τ) ↦[M7.view.set]{shr c c} oB m ρ c) from .rfl) $$ H7
  iapply (wp_load 𝒱₀ (c : Thread nD τ) none Set.univ (m := M11) (Finset.subset_univ _)) $$ H11; iintro H11
  iapply (wp_load 𝒱₀ (c : Thread nD τ) none Set.univ (m := M7) (View.setOn_subset_set _ _)) $$ H7; iintro H7
  iapply (wp_waitRQ m ρ K c (lf c) (lf_ne c) (sem_lf _ c)) $$ [HO Hrlfq]
  · isplitr; · iexact HR
    isplitl [HO] <;> iassumption
  iintro ⟨HO, Hrlfq⟩
  ihave Hrlfq := (show done m ρ c (lf c) true false ⊢ iprop(semVal (xCell c (lf c) true false) 0 ∗ xPay m ρ c (lf c) true false) from .rfl) $$ Hrlfq
  icases Hrlfq with ⟨Hz, Hs⟩
  ihave Hs := (show xPay m ρ c (lf c) true false ⊢ slotGot m ρ c (lf c) false from .rfl) $$ Hs
  iapply (wp_loadQ m ρ c (lf c) (off9_lf c)) $$ Hs; iintro Hs
  ihave Hrlfq := (show iprop(semVal (xCell c (lf c) true false) 0 ∗ slotGot m ρ c (lf c) false) ⊢ done m ρ c (lf c) true false from .rfl) $$ [Hz Hs]
  · isplitl [Hz] <;> iassumption
  iapply (wp_load 𝒱₀ (c : Thread nD τ) none Set.univ (m := M10) (Finset.subset_univ _)) $$ H10; iintro H10
  rw [show M7.view.readAt (Elt F) (Rect.unit (s := S256x512) ![0, 0] S256x512.size inb_S256x512_S256x512_0_0).toLoadRect (oB m ρ c) = oB m ρ c from Memref.readAt_unit_zero (Elt F) cc0_scratch1 hz2 _ _]
  ihave H7 := (show (M7.view.loc (c : Thread nD τ) ↦[M7.view.set]{shr c c} oB m ρ c) ⊢ srcTok m ρ c c true from .rfl) $$ H7
  iapply (wp_end c (a' := ⟨o521 c (ins m ρ c), o534 c (ins m ρ c), o542 c (ins m ρ c)⟩) (by rfl))
  iapply Hk
  isplitl [HO]; · iexact HO
  isplitl [H7]; · iexact H7
  isplitl [Hrlfq]; · iexact Hrlfq
  isplitl [H2]; · iexact H2
  isplitl [H3]; · iexact H3
  isplitl [H10] <;> iassumption

set_option maxHeartbeats 1000000 in
theorem part22 (v5 : BitVec 32) {Q : FVec F S256x256 .bf16 → sProp 𝕄} :
    iprop(records m ρ K ∗ owesE c 0 ∗ pend (F := F) c (lf c) true true ∗ fill c (ins m ρ c).k (ins m ρ c).v 32 32)
      ⊢ iprop(((owesE c 0 ∗ done m ρ c (lf c) true true ∗ fill c (ins m ρ c).k (ins m ρ c).v 32 32) -∗ Q (o573 c (ins m ρ c)))
          -∗ WP c (k0_part22 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 cc0_scratch9 c v5 (p475 c) (o534 c (ins m ρ c)) (o542 c (ins m ρ c))) Q) := by
  rw [k0_part22_eq_skeleton]; unfold k0_part22_skel fill
  simp only [Prog.lift, Prog.bind_op, Prog.bind_ret, Prog.pure_eq_ret]
  iintro ⟨#HR, HO, Hrlfo, H2, H3, H10, H11⟩ Hk
  iapply (wp_load 𝒱₀ (c : Thread nD τ) none Set.univ (m := M11) (Finset.subset_univ _)) $$ H11; iintro H11
  iapply (wp_load 𝒱₀ (c : Thread nD τ) none Set.univ (m := M10) (Finset.subset_univ _)) $$ H10; iintro H10
  iapply (wp_load 𝒱₀ (c : Thread nD τ) none Set.univ (m := M11) (Finset.subset_univ _)) $$ H11; iintro H11
  iapply (wp_waitRO m ρ K c (lf c) (lf_ne c) (sem_lf _ c)) $$ [HO Hrlfo]
  · isplitr; · iexact HR
    isplitl [HO] <;> iassumption
  iintro ⟨HO, Hrlfo⟩
  iapply (wp_end c (a' := (o573 c (ins m ρ c))) (by rfl))
  iapply Hk
  isplitl [HO]; · iexact HO
  isplitl [Hrlfo]; · iexact Hrlfo
  isplitl [H2]; · iexact H2
  isplitl [H3]; · iexact H3
  isplitl [H10] <;> iassumption

set_option maxHeartbeats 1000000 in
theorem part23 (v5 v7 : BitVec 32) {Q : (Σ' (v586 : FVec F S256x512 .f32) (v618 : FVec F S128x256 .bf16), FVec F S128x256 .bf16) → sProp 𝕄} :
    iprop(records m ρ K ∗ owesE c 0 ∗ done m ρ c (lf c) true true ∗ pend (F := F) c (rt c) true false ∗ fill c (ins m ρ c).k (ins m ρ c).v 32 32)
      ⊢ iprop(((owesE c 0 ∗ done m ρ c (lf c) true true ∗ done m ρ c (rt c) true false ∗ fill c (ins m ρ c).k (ins m ρ c).v 32 32) -∗ Q ⟨o586 c (ins m ρ c), o618 c (ins m ρ c), o619 c (ins m ρ c)⟩)
          -∗ WP c (k0_part23 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 cc0_scratch9 c v5 v7 (o407 (ins m ρ c)) (p475 c) (o521 c (ins m ρ c)) (o573 c (ins m ρ c))) Q) := by
  rw [k0_part23_eq_skeleton]; unfold k0_part23_skel fill
  simp only [Prog.lift, Prog.bind_op, Prog.bind_ret, Prog.pure_eq_ret]
  iintro ⟨#HR, HO, Hrlfo, Hrrtq, H2, H3, H10, H11⟩ Hk
  ihave Hrlfo := (show done m ρ c (lf c) true true ⊢ iprop(semVal (xCell c (lf c) true true) 0 ∗ xPay m ρ c (lf c) true true) from .rfl) $$ Hrlfo
  icases Hrlfo with ⟨Hz, Hs⟩
  ihave Hs := (show xPay m ρ c (lf c) true true ⊢ slotGot m ρ c (lf c) true from .rfl) $$ Hs
  iapply (wp_loadO m ρ c (lf c) (off13_lf c)) $$ Hs; iintro Hs
  ihave Hrlfo := (show iprop(semVal (xCell c (lf c) true true) 0 ∗ slotGot m ρ c (lf c) true) ⊢ done m ρ c (lf c) true true from .rfl) $$ [Hz Hs]
  · isplitl [Hz] <;> iassumption
  iapply (wp_waitRQ m ρ K c (rt c) (rt_ne c) (sem_rt _ c)) $$ [HO Hrrtq]
  · isplitr; · iexact HR
    isplitl [HO] <;> iassumption
  iintro ⟨HO, Hrrtq⟩
  ihave Hrrtq := (show done m ρ c (rt c) true false ⊢ iprop(semVal (xCell c (rt c) true false) 0 ∗ xPay m ρ c (rt c) true false) from .rfl) $$ Hrrtq
  icases Hrrtq with ⟨Hz, Hs⟩
  ihave Hs := (show xPay m ρ c (rt c) true false ⊢ slotGot m ρ c (rt c) false from .rfl) $$ Hs
  iapply (wp_loadQ m ρ c (rt c) (off15_rt c)) $$ Hs; iintro Hs
  ihave Hrrtq := (show iprop(semVal (xCell c (rt c) true false) 0 ∗ slotGot m ρ c (rt c) false) ⊢ done m ρ c (rt c) true false from .rfl) $$ [Hz Hs]
  · isplitl [Hz] <;> iassumption
  iapply (wp_load 𝒱₀ (c : Thread nD τ) none Set.univ (m := M10) (Finset.subset_univ _)) $$ H10; iintro H10
  iapply (wp_load 𝒱₀ (c : Thread nD τ) none Set.univ (m := M11) (Finset.subset_univ _)) $$ H11; iintro H11
  iapply (wp_end c (a' := ⟨o586 c (ins m ρ c), o618 c (ins m ρ c), o619 c (ins m ρ c)⟩) (by rfl))
  iapply Hk
  isplitl [HO]; · iexact HO
  isplitl [Hrlfo]; · iexact Hrlfo
  isplitl [Hrrtq]; · iexact Hrrtq
  isplitl [H2]; · iexact H2
  isplitl [H3]; · iexact H3
  isplitl [H10] <;> iassumption

set_option maxHeartbeats 1000000 in
theorem part24 (v7 v9 : BitVec 32) {Q : FVec F S256x512 .f32 → sProp 𝕄} :
    iprop(records m ρ K ∗ owesE c 0 ∗ pend (F := F) c (rt c) true true ∗ fill c (ins m ρ c).k (ins m ρ c).v 32 32)
      ⊢ iprop(((owesE c 0 ∗ done m ρ c (rt c) true true ∗ fill c (ins m ρ c).k (ins m ρ c).v 32 32) -∗ Q (o651 c (ins m ρ c)))
          -∗ WP c (k0_part24 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 cc0_scratch9 c v7 v9 (p475 c) (o586 c (ins m ρ c)) (o618 c (ins m ρ c)) (o619 c (ins m ρ c))) Q) := by
  rw [k0_part24_eq_skeleton]; unfold k0_part24_skel fill
  simp only [Prog.lift, Prog.bind_op, Prog.bind_ret, Prog.pure_eq_ret]
  iintro ⟨#HR, HO, Hrrto, H2, H3, H10, H11⟩ Hk
  iapply (wp_load 𝒱₀ (c : Thread nD τ) none Set.univ (m := M10) (Finset.subset_univ _)) $$ H10; iintro H10
  iapply (wp_load 𝒱₀ (c : Thread nD τ) none Set.univ (m := M11) (Finset.subset_univ _)) $$ H11; iintro H11
  iapply (wp_waitRO m ρ K c (rt c) (rt_ne c) (sem_rt _ c)) $$ [HO Hrrto]
  · isplitr; · iexact HR
    isplitl [HO] <;> iassumption
  iintro ⟨HO, Hrrto⟩
  ihave Hrrto := (show done m ρ c (rt c) true true ⊢ iprop(semVal (xCell c (rt c) true true) 0 ∗ xPay m ρ c (rt c) true true) from .rfl) $$ Hrrto
  icases Hrrto with ⟨Hz, Hs⟩
  ihave Hs := (show xPay m ρ c (rt c) true true ⊢ slotGot m ρ c (rt c) true from .rfl) $$ Hs
  iapply (wp_loadO m ρ c (rt c) (off19_rt c)) $$ Hs; iintro Hs
  ihave Hrrto := (show iprop(semVal (xCell c (rt c) true true) 0 ∗ slotGot m ρ c (rt c) true) ⊢ done m ρ c (rt c) true true from .rfl) $$ [Hz Hs]
  · isplitl [Hz] <;> iassumption
  iapply (wp_end c (a' := (o651 c (ins m ρ c))) (by rfl))
  iapply Hk
  isplitl [HO]; · iexact HO
  isplitl [Hrrto]; · iexact Hrrto
  isplitl [H2]; · iexact H2
  isplitl [H3]; · iexact H3
  isplitl [H10] <;> iassumption

set_option maxHeartbeats 1000000 in
theorem part25 (v9 : BitVec 32) {Q : (Σ' (v683 : FVec F S128x256 .bf16), FVec F S128x512 .f32) → sProp 𝕄} :
    iprop(records m ρ K ∗ owesE c 0 ∗ pend (F := F) c (op c) true false ∗ fill c (ins m ρ c).k (ins m ρ c).v 32 32)
      ⊢ iprop(((owesE c 0 ∗ done m ρ c (op c) true false ∗ fill c (ins m ρ c).k (ins m ρ c).v 32 32) -∗ Q ⟨o683 c (ins m ρ c), o696 c (ins m ρ c)⟩)
          -∗ WP c (k0_part25 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 cc0_scratch9 c v9 (o407 (ins m ρ c)) (p475 c)) Q) := by
  rw [k0_part25_eq_skeleton]; unfold k0_part25_skel fill
  simp only [Prog.lift, Prog.bind_op, Prog.bind_ret, Prog.pure_eq_ret]
  iintro ⟨#HR, HO, Hropq, H2, H3, H10, H11⟩ Hk
  iapply (wp_waitRQ m ρ K c (op c) (op_ne c) (sem_op _ c)) $$ [HO Hropq]
  · isplitr; · iexact HR
    isplitl [HO] <;> iassumption
  iintro ⟨HO, Hropq⟩
  ihave Hropq := (show done m ρ c (op c) true false ⊢ iprop(semVal (xCell c (op c) true false) 0 ∗ xPay m ρ c (op c) true false) from .rfl) $$ Hropq
  icases Hropq with ⟨Hz, Hs⟩
  ihave Hs := (show xPay m ρ c (op c) true false ⊢ slotGot m ρ c (op c) false from .rfl) $$ Hs
  iapply (wp_loadQ m ρ c (op c) (off15_op c)) $$ Hs; iintro Hs
  ihave Hropq := (show iprop(semVal (xCell c (op c) true false) 0 ∗ slotGot m ρ c (op c) false) ⊢ done m ρ c (op c) true false from .rfl) $$ [Hz Hs]
  · isplitl [Hz] <;> iassumption
  iapply (wp_load 𝒱₀ (c : Thread nD τ) none Set.univ (m := M10) (Finset.subset_univ _)) $$ H10; iintro H10
  iapply (wp_load 𝒱₀ (c : Thread nD τ) none Set.univ (m := M11) (Finset.subset_univ _)) $$ H11; iintro H11
  iapply (wp_load 𝒱₀ (c : Thread nD τ) none Set.univ (m := M10) (Finset.subset_univ _)) $$ H10; iintro H10
  iapply (wp_end c (a' := ⟨o683 c (ins m ρ c), o696 c (ins m ρ c)⟩) (by rfl))
  iapply Hk
  isplitl [HO]; · iexact HO
  isplitl [Hropq]; · iexact Hropq
  isplitl [H2]; · iexact H2
  isplitl [H3]; · iexact H3
  isplitl [H10] <;> iassumption

set_option maxHeartbeats 1000000 in
theorem part26 (v9 : BitVec 32) {Q : FVec F S256x512 .f32 → sProp 𝕄} :
    iprop(records m ρ K ∗ owesE c 0 ∗ pend (F := F) c (op c) true true ∗ pend (F := F) c (op c) false false ∗ pend (F := F) c (rt c) false false ∗ pend (F := F) c (lf c) false false ∗ fill c (ins m ρ c).k (ins m ρ c).v 32 32)
      ⊢ iprop(((owesE c 0 ∗ done m ρ c (op c) true true ∗ done m ρ c (op c) false false ∗ done m ρ c (rt c) false false ∗ done m ρ c (lf c) false false ∗ fill c (ins m ρ c).k (ins m ρ c).v 32 32) -∗ Q (o716 c (ins m ρ c)))
          -∗ WP c (k0_part26 (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 cc0_scratch9 c v9 (o651 c (ins m ρ c)) (o683 c (ins m ρ c)) (o696 c (ins m ρ c))) Q) := by
  rw [k0_part26_eq_skeleton]; unfold k0_part26_skel fill
  simp only [Prog.lift, Prog.bind_op, Prog.bind_ret, Prog.pure_eq_ret]
  iintro ⟨#HR, HO, Hropo, Hsopq, Hsrtq, Hslfq, H2, H3, H10, H11⟩ Hk
  iapply (wp_load 𝒱₀ (c : Thread nD τ) none Set.univ (m := M11) (Finset.subset_univ _)) $$ H11; iintro H11
  iapply (wp_waitRO m ρ K c (op c) (op_ne c) (sem_op _ c)) $$ [HO Hropo]
  · isplitr; · iexact HR
    isplitl [HO] <;> iassumption
  iintro ⟨HO, Hropo⟩
  ihave Hropo := (show done m ρ c (op c) true true ⊢ iprop(semVal (xCell c (op c) true true) 0 ∗ xPay m ρ c (op c) true true) from .rfl) $$ Hropo
  icases Hropo with ⟨Hz, Hs⟩
  ihave Hs := (show xPay m ρ c (op c) true true ⊢ slotGot m ρ c (op c) true from .rfl) $$ Hs
  iapply (wp_loadO m ρ c (op c) (off19_op c)) $$ Hs; iintro Hs
  ihave Hropo := (show iprop(semVal (xCell c (op c) true true) 0 ∗ slotGot m ρ c (op c) true) ⊢ done m ρ c (op c) true true from .rfl) $$ [Hz Hs]
  · isplitl [Hz] <;> iassumption
  iapply (wp_waitSQ m ρ K c (op c) (op_ne c) (sem_op _ c)) $$ [HO Hsopq]
  · isplitr; · iexact HR
    isplitl [HO] <;> iassumption
  iintro ⟨HO, Hsopq⟩
  iapply (wp_waitSQ m ρ K c (rt c) (rt_ne c) (sem_rt _ c)) $$ [HO Hsrtq]
  · isplitr; · iexact HR
    isplitl [HO] <;> iassumption
  iintro ⟨HO, Hsrtq⟩
  iapply (wp_waitSQ m ρ K c (lf c) (lf_ne c) (sem_lf _ c)) $$ [HO Hslfq]
  · isplitr; · iexact HR
    isplitl [HO] <;> iassumption
  iintro ⟨HO, Hslfq⟩
  iapply (wp_end c (a' := (o716 c (ins m ρ c))) (by rfl))
  iapply Hk
  isplitl [HO]; · iexact HO
  isplitl [Hropo]; · iexact Hropo
  isplitl [Hsopq]; · iexact Hsopq
  isplitl [Hsrtq]; · iexact Hsrtq
  isplitl [Hslfq]; · iexact Hslfq
  isplitl [H2]; · iexact H2
  isplitl [H3]; · iexact H3
  isplitl [H10] <;> iassumption

end Cert.KernelIdealRun

end
-- ==== Proof.Body.lean ====
/-
# The whole body

The windows of the cut composed: from what the launch deals a device to its output block, its cells closed and its
buffers whole again; and the library's obligation for the body.
-/
module

public import proofs.«01_k».proof.Proof.Body2

@[expose] public section

set_option synthInstance.maxSize 4096

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)
variable (K : Dev nD × CKey → ℕ) (c : Dev nD)

/-- A device's positions in its four transfer cells of index `d`. -/
def peerAt (d : Dev nD) : sProp 𝕄 :=
  iprop(atPos ER (xCell c d false false) 0 ∅ 0 ∗ atPos ER (xCell c d false true) 0 ∅ 0 ∗ atPos ER (xCell c d true false) 0 ∅ 0 ∗ atPos ER (xCell c d true true) 0 ∅ 0)
/-- The duties device `c` pays towards `d`. -/
def payTok (d : Dev nD) : sProp 𝕄 :=
  iprop(dutyTok ER (barCell d) 0 c ∗ dutyTok ER (xCell d c true false) 0 0 ∗ dutyTok ER (xCell d c true true) 0 0
    ∗ dutyTok ER (xCell c d false false) 0 0 ∗ dutyTok ER (xCell c d false true) 0 0)
def linear : sProp 𝕄 :=
  iprop(atPos ER (barCell c) 0 ∅ 0 ∗ (bigSep Finset.univ fun d : Dev nD => peerAt (F := F) c d) ∗ bigSep Finset.univ fun d : Dev nD => payTok (F := F) c d)
/-- The credit a device is launched with, cell by cell. -/
def credits : sProp 𝕄 := bigSep Finset.univ fun k : CKey => cred (tallyAt (kcell (c, k)) () (crd c k))

def peerCred (d : Dev nD) : sProp 𝕄 := iprop(cred (tallyAt (xCell c d true false) () (Nw false)) ∗ cred (tallyAt (xCell c d true true) () (Nw true)))

theorem bigSep_bb (Φ : Bool × Bool → sProp 𝕄) : bigSep Finset.univ Φ = iprop(Φ (false, false) ∗ Φ (false, true) ∗ Φ (true, false) ∗ Φ (true, true)) :=
  bigSep_univ_eq_bigSepL [(false, false), (false, true), (true, false), (true, true)] (by decide) (by decide) Φ

/-- The conjunction over a device's cells, spelt out. -/
theorem bigSep_ckey (Φ : CKey → sProp 𝕄) : bigSep Finset.univ Φ
    = iprop(Φ (.inl ()) ∗ bigSep Finset.univ fun d : Dev nD => iprop(Φ (.inr (d, false, false)) ∗ Φ (.inr (d, false, true)) ∗ Φ (.inr (d, true, false)) ∗ Φ (.inr (d, true, true)))) := by
  rw [bigSep_univ_sum, bigSep_univ_prod, show bigSep (Finset.univ : Finset Unit) (fun a => Φ (.inl a)) = Φ (.inl ()) from bigSep_singleton]
  simp only [bigSep_bb]; rfl

theorem credits_split : credits (F := F) c ⊢ iprop(cred (tallyAt (barCell c) () 3) ∗ peerCred (F := F) c (lf c) ∗ peerCred (F := F) c (rt c) ∗ peerCred (F := F) c (op c)) := by
  unfold credits peerCred
  rw [bigSep_ckey, bigSep_peers c]
  have h (d : Dev nD) (hd : d ≠ c) (w : Bool) : crd c (.inr (d, true, w)) = Nw w := by simp [crd, hd]
  rw [h _ (lf_ne c), h _ (rt_ne c), h _ (op_ne c), h _ (lf_ne c), h _ (rt_ne c), h _ (op_ne c)]
  iintro ⟨HB, -, ⟨-, -, H1, H2⟩, ⟨-, -, H3, H4⟩, ⟨-, -, H5, H6⟩⟩
  isplitl [HB]; · iexact HB
  isplitl [H1 H2]; · isplitl [H1] <;> iassumption
  isplitl [H3 H4]; · isplitl [H3] <;> iassumption
  isplitl [H5] <;> iassumption

/-- A device's four transfer cells of index `d` at zero. -/
def peerZero (d : Dev nD) : sProp 𝕄 :=
  iprop(semVal (xCell c d false false) 0 ∗ semVal (xCell c d false true) 0 ∗ semVal (xCell c d true false) 0 ∗ semVal (xCell c d true true) 0)
def peerDone (d : Dev nD) : sProp 𝕄 :=
  iprop(done m ρ c d false false ∗ done m ρ c d false true ∗ done m ρ c d true false ∗ done m ρ c d true true)

theorem peer_zero (d : Dev nD) : peerDone m ρ c d ⊢ iprop(peerZero (F := F) c d ∗ srcTok m ρ c d false ∗ srcTok m ρ c d true ∗ slotAny (F := F) c d false ∗ slotAny (F := F) c d true) := by
  unfold peerDone peerZero done
  iintro ⟨⟨H1, P1⟩, ⟨H2, P2⟩, ⟨H3, P3⟩, ⟨H4, P4⟩⟩
  isplitl [H1 H2 H3 H4]
  · isplitl [H1]; · iexact H1
    isplitl [H2]; · iexact H2
    isplitl [H3] <;> iassumption
  isplitl [P1]; · iapply (show xPay m ρ c d false false ⊢ srcTok m ρ c d false from .rfl); iexact P1
  isplitl [P2]; · iapply (show xPay m ρ c d false true ⊢ srcTok m ρ c d true from .rfl); iexact P2
  isplitl [P3]; · iapply (show xPay m ρ c d true false ⊢ slotAny (F := F) c d false from slotGot_any m ρ c d false); iexact P3
  iapply (show xPay m ρ c d true true ⊢ slotAny (F := F) c d true from slotGot_any m ρ c d true); iexact P4

theorem own_zero : iprop(records m ρ K ∗ peerAt (F := F) c c) ⊢ |={Set.univ}=> peerZero (F := F) c c := by
  unfold peerAt peerZero
  iintro ⟨#HR, H1, H2, H3, H4⟩
  imod (close_own m ρ K c false false) $$ [H1] with H1
  · isplitr; · iexact HR
    iexact H1
  imod (close_own m ρ K c false true) $$ [H2] with H2
  · isplitr; · iexact HR
    iexact H2
  imod (close_own m ρ K c true false) $$ [H3] with H3
  · isplitr; · iexact HR
    iexact H3
  imod (close_own m ρ K c true true) $$ [H4] with H4
  · isplitr; · iexact HR
    iexact H4
  imodintro
  isplitl [H1]; · iexact H1
  isplitl [H2]; · iexact H2
  isplitl [H3] <;> iassumption

theorem src_split6 : held c M6 fullShare (qB m ρ c) ⊢ iprop(srcTok m ρ c c false ∗ srcTok m ρ c (lf c) false ∗ srcTok m ρ c (rt c) false ∗ srcTok m ρ c (op c) false) := by
  refine BIBase.Entails.trans (Entails.of_eq ?_) (pts_split c (M6.view.loc (c : Thread nD τ)) M6.view.set (qB m ρ c))
  rw [show M6.view.set = Finset.univ from View.set_whole _]
theorem src_split7 : held c M7 fullShare (oB m ρ c) ⊢ iprop(srcTok m ρ c c true ∗ srcTok m ρ c (lf c) true ∗ srcTok m ρ c (rt c) true ∗ srcTok m ρ c (op c) true) := by
  refine BIBase.Entails.trans (Entails.of_eq ?_) (pts_split c (M7.view.loc (c : Thread nD τ)) M7.view.set (oB m ρ c))
  rw [show M7.view.set = Finset.univ from View.set_whole _]
theorem src_join6 : iprop(srcTok m ρ c c false ∗ srcTok m ρ c (lf c) false ∗ srcTok m ρ c (rt c) false ∗ srcTok m ρ c (op c) false) ⊢ held c M6 fullShare (qB m ρ c) := by
  refine BIBase.Entails.trans (pts_join c (M6.view.loc (c : Thread nD τ)) M6.view.set (qB m ρ c)) (Entails.of_eq ?_)
  rw [show M6.view.set = Finset.univ from View.set_whole _]
theorem src_join7 : iprop(srcTok m ρ c c true ∗ srcTok m ρ c (lf c) true ∗ srcTok m ρ c (rt c) true ∗ srcTok m ρ c (op c) true) ⊢ held c M7 fullShare (oB m ρ c) := by
  refine BIBase.Entails.trans (pts_join c (M7.view.loc (c : Thread nD τ)) M7.view.set (oB m ρ c)) (Entails.of_eq ?_)
  rw [show M7.view.set = Finset.univ from View.set_whole _]

/-- The six buffers the body works in, each whole at some contents. -/
def bufs : sProp 𝕄 :=
  iprop((∃ f, held (F := F) c M6 fullShare f) ∗ (∃ f, held (F := F) c M7 fullShare f) ∗ (∃ f, held (F := F) c M8 fullShare f) ∗ (∃ f, held (F := F) c M9 fullShare f)
    ∗ (∃ f, held (F := F) c M10 fullShare f) ∗ (∃ f, held (F := F) c M11 fullShare f))

/-- What the exchange leaves: all cells at zero, all buffers whole. -/
def Φ₁ : sProp 𝕄 := iprop(semVal (barCell c) 0 ∗ (bigSep Finset.univ fun d : Dev nD => peerZero (F := F) c d) ∗ bufs (F := F) c)

theorem finish (X2 X3 : Vec F S2x128x16x64 .bf16) :
    iprop(semVal (barCell c) 0 ∗ peerZero (F := F) c c ∗ srcTok m ρ c c false ∗ srcTok m ρ c c true ∗ slotAny (F := F) c c false ∗ slotAny (F := F) c c true
        ∗ peerDone m ρ c (lf c) ∗ peerDone m ρ c (rt c) ∗ peerDone m ρ c (op c) ∗ held c M10 fullShare (bd X2 32) ∗ held c M11 fullShare (bd X3 32)) ⊢ Φ₁ (F := F) c := by
  unfold Φ₁ bufs
  rw [bigSep_peers c]
  iintro ⟨HB, Z0, S0, T0, A0, B0, D1, D2, D3, H10, H11⟩
  ihave D1 := (peer_zero m ρ c (lf c)) $$ D1
  ihave D2 := (peer_zero m ρ c (rt c)) $$ D2
  ihave D3 := (peer_zero m ρ c (op c)) $$ D3
  icases D1 with ⟨Z1, S1, T1, A1, B1⟩
  icases D2 with ⟨Z2, S2, T2, A2, B2⟩
  icases D3 with ⟨Z3, S3, T3, A3, B3⟩
  isplitl [HB]; · iexact HB
  isplitl [Z0 Z1 Z2 Z3]
  · isplitl [Z0]; · iexact Z0
    isplitl [Z1]; · iexact Z1
    isplitl [Z2] <;> iassumption
  isplitl [S0 S1 S2 S3]
  · iexists (qB m ρ c)
    iapply (src_join6 m ρ c)
    isplitl [S0]; · iexact S0
    isplitl [S1]; · iexact S1
    isplitl [S2] <;> iassumption
  isplitl [T0 T1 T2 T3]
  · iexists (oB m ρ c)
    iapply (src_join7 m ρ c)
    isplitl [T0]; · iexact T0
    isplitl [T1]; · iexact T1
    isplitl [T2] <;> iassumption
  isplitl [A0 A1 A2 A3]
  · iapply (slotsQ_join (F := F) c)
    rw [bigSep_peers c]
    isplitl [A0]; · iexact A0
    isplitl [A1]; · iexact A1
    isplitl [A2] <;> iassumption
  isplitl [B0 B1 B2 B3]
  · iapply (slotsO_join (F := F) c)
    rw [bigSep_peers c]
    isplitl [B0]; · iexact B0
    isplitl [B1]; · iexact B1
    isplitl [B2] <;> iassumption
  isplitl [H10]; · iexists _; iexact H10
  iexists _; iexact H11

/-- The staging buffers, the five inputs at what the device reads and the output at `f`. -/
def stages (f : (cc0_stg5_0 : Ref sig .tc).ty.Contents (Elt F)) : sProp 𝕄 :=
  iprop(held c M0 fullShare (ins m ρ c).x ∗ held c M1 fullShare (stgQ m ρ c) ∗ held c M2 fullShare (ins m ρ c).k ∗ held c M3 fullShare (ins m ρ c).v
    ∗ held c M4 fullShare (stgO m ρ c) ∗ held c M5 fullShare f)

theorem WP_bind {α β : Type} (p : Prog (TpuEff nD τ sig (Elt F) Λ₀ .tc) α) (k : α → Prog (TpuEff nD τ sig (Elt F) Λ₀ .tc) β) (Q : β → sProp 𝕄) :
    WP c (p >>= k) Q = WP c p (fun a => WP c (k a) Q) := wp_bind _ _ _ p k Q

set_option pp.maxSteps 800 in
set_option maxHeartbeats 2000000 in
/-- The body, window by window of its cut. -/
theorem sound_body (f5 : (cc0_stg5_0 : Ref sig .tc).ty.Contents (Elt F)) (Kt : PUnit → sProp 𝕄) :
    iprop((records m ρ K ∗ levAts L lv ∗ linear (F := F) c ∗ credits (F := F) c ∗ bufs (F := F) c) ∗ owesE c (O₀ c) ∗ stages m ρ c f5)
      ⊢ iprop(((Φ₁ (F := F) c ∗ owesE c 0 ∗ stages m ρ c (outV c (ins m ρ c))) -∗ Kt ⟨⟩)
          -∗ WP c (cc0_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 cc0_scratch9) Kt) := by
  rw [cc0_body_eq_skeleton]; unfold cc0_body_skel
  unfold linear bufs stages
  rw [bigSep_peers c, bigSep_peers c]
  iintro ⟨⟨#HR, #Hlev, ⟨HatB, ⟨Hown, Hal, Har, Hao⟩, ⟨-, Htl, Htr, Hto⟩⟩, Hcr, ⟨⟨%f6, H6⟩, ⟨%f7, H7⟩, ⟨%f8, H8⟩, ⟨%f9, H9⟩, ⟨%f10, H10⟩, ⟨%f11, H11⟩⟩⟩, HO, H0, H1, H2, H3, H4, H5⟩ Hk
  ihave Hcr := (credits_split (F := F) c) $$ Hcr
  unfold peerCred peerAt payTok
  icases Hcr with ⟨HcB, ⟨Cl1, Cl2⟩, ⟨Cr1, Cr2⟩, ⟨Co1, Co2⟩⟩
  icases Hal with ⟨Al1, Al2, Al3, Al4⟩
  icases Har with ⟨Ar1, Ar2, Ar3, Ar4⟩
  icases Hao with ⟨Ao1, Ao2, Ao3, Ao4⟩
  icases Htl with ⟨Tl0, Tl1, Tl2, Tl3, Tl4⟩
  icases Htr with ⟨Tr0, Tr1, Tr2, Tr3, Tr4⟩
  icases Hto with ⟨To0, To1, To2, To3, To4⟩
  ihave H8 := (slotsQ_split (F := F) c f8) $$ H8
  ihave H9 := (slotsO_split (F := F) c f9) $$ H9
  ihave H8 := (Entails.of_eq (bigSep_peers c (fun o => slotAny (F := F) c o false))) $$ H8
  ihave H9 := (Entails.of_eq (bigSep_peers c (fun o => slotAny (F := F) c o true))) $$ H9
  icases H8 with ⟨Q0, Ql, Qr, Qo⟩
  icases H9 with ⟨R0, Rl, Rr, Ro⟩
  rw [WP_bind]
  iapply (part1 m ρ K c f6 f7) $$ [HO Tl0 Ql Rl Tr0 Qr Rr To0 Qo Ro H1 H4 H6 H7]
  · unfold sigRes
    isplitr; · iexact HR
    isplitl [HO]; · iexact HO
    isplitl [Tl0 Ql Rl]
    · isplitl [Tl0]; · iexact Tl0
      isplitl [Ql] <;> iassumption
    isplitl [Tr0 Qr Rr]
    · isplitl [Tr0]; · iexact Tr0
      isplitl [Qr] <;> iassumption
    isplitl [To0 Qo Ro]
    · isplitl [To0]; · iexact To0
      isplitl [Qo] <;> iassumption
    isplitl [H1]; · iexact H1
    isplitl [H4]; · iexact H4
    isplitl [H6] <;> iassumption
  iintro ⟨HO, H1, H4, H6, H7⟩ %v5 %v7 %v9
  ihave H6 := (src_split6 m ρ c) $$ H6
  ihave H7 := (src_split7 m ρ c) $$ H7
  icases H6 with ⟨S0, Sl, Sr, So⟩
  icases H7 with ⟨U0, Ul, Ur, Uo⟩
  dsimp only
  rw [WP_bind]
  iapply (part2 m ρ K c v5 v7 v9) $$ [HO HcB HatB So To3 To1 Ao1 Sr Tr3 Tr1 Ar1 Sl Tl3 Tl1 Al1 Uo To4 To2 Ao2]
  · unfold barPend sendRes
    isplitr; · iexact HR
    isplitr; · iexact Hlev
    isplitl [HO]; · iexact HO
    isplitl [HcB HatB]; · isplitl [HcB] <;> iassumption
    isplitl [So To3 To1 Ao1]
    · isplitl [So]; · iexact So
      isplitl [To3]; · iexact To3
      isplitl [To1] <;> iassumption
    isplitl [Sr Tr3 Tr1 Ar1]
    · isplitl [Sr]; · iexact Sr
      isplitl [Tr3]; · iexact Tr3
      isplitl [Tr1] <;> iassumption
    isplitl [Sl Tl3 Tl1 Al1]
    · isplitl [Sl]; · iexact Sl
      isplitl [Tl3]; · iexact Tl3
      isplitl [Tl1] <;> iassumption
    isplitl [Uo]; · iexact Uo
    isplitl [To4]; · iexact To4
    isplitl [To2] <;> iassumption
  iintro ⟨HO, HzB, Nr, Nl, Hsopq, Hsrtq, Hslfq, Hsopo⟩
  rw [WP_bind]
  iapply (part3 m ρ K c v5 (ins m ρ c).k (ins m ρ c).v f10 f11) $$ [HO Nr Nl Ur Tr4 Tr2 Ar2 Ul Tl4 Tl2 Al2 H2 H3 H10 H11]
  · unfold sendRes
    isplitr; · iexact HR
    isplitl [HO]; · iexact HO
    isplitl [Nr]; · iexact Nr
    isplitl [Nl]; · iexact Nl
    isplitl [Ur Tr4 Tr2 Ar2]
    · isplitl [Ur]; · iexact Ur
      isplitl [Tr4]; · iexact Tr4
      isplitl [Tr2] <;> iassumption
    isplitl [Ul Tl4 Tl2 Al2]
    · isplitl [Ul]; · iexact Ul
      isplitl [Tl4]; · iexact Tl4
      isplitl [Tl2] <;> iassumption
    isplitl [H2]; · iexact H2
    isplitl [H3]; · iexact H3
    isplitl [H10] <;> iassumption
  iintro ⟨HO, Hsrto, Hslfo, Hf⟩
  rw [WP_bind]
  iapply (part4 c (ins m ρ c).k (ins m ρ c).v) $$ Hf; iintro Hf
  rw [WP_bind]
  iapply (part5 c (ins m ρ c).k (ins m ρ c).v) $$ Hf; iintro Hf
  rw [WP_bind]
  iapply (part6 c (ins m ρ c).k (ins m ρ c).v) $$ Hf; iintro Hf
  rw [WP_bind]
  iapply (part7 c (ins m ρ c).k (ins m ρ c).v) $$ Hf; iintro Hf
  rw [WP_bind]
  iapply (part8 c (ins m ρ c).k (ins m ρ c).v) $$ Hf; iintro Hf
  rw [WP_bind]
  iapply (part9 c (ins m ρ c).k (ins m ρ c).v) $$ Hf; iintro Hf
  rw [WP_bind]
  iapply (part10 c (ins m ρ c).k (ins m ρ c).v) $$ Hf; iintro Hf
  rw [WP_bind]
  iapply (part11 c (ins m ρ c).k (ins m ρ c).v) $$ Hf; iintro Hf
  rw [WP_bind]
  iapply (part12 c (ins m ρ c).k (ins m ρ c).v) $$ Hf; iintro Hf
  rw [WP_bind]
  iapply (part13 c (ins m ρ c).k (ins m ρ c).v) $$ Hf; iintro Hf
  rw [WP_bind]
  iapply (part14 c (ins m ρ c).k (ins m ρ c).v) $$ Hf; iintro Hf
  rw [WP_bind]
  iapply (part15 c (ins m ρ c).k (ins m ρ c).v) $$ Hf; iintro Hf
  rw [WP_bind]
  iapply (part16 c (ins m ρ c).k (ins m ρ c).v) $$ Hf; iintro Hf
  rw [WP_bind]
  iapply (part17 c (ins m ρ c).k (ins m ρ c).v) $$ Hf; iintro Hf
  rw [WP_bind]
  iapply (part18 c (ins m ρ c) (w2 c)) $$ [Hf H0]
  · isplitl [Hf] <;> iassumption
  iintro ⟨Hf, H0⟩
  dsimp only
  rw [WP_bind]
  rw [k0_part19_eq_skeleton]; unfold k0_part19_skel
  simp only [Prog.pure_eq_ret]
  iapply (wp_end c rfl)
  dsimp only
  rw [WP_bind]
  iapply (part20 m ρ c) $$ [S0 Hf]
  · isplitl [S0] <;> iassumption
  iintro ⟨S0, Hf⟩
  dsimp only
  rw [WP_bind]
  iapply (part21 m ρ K c v5) $$ [HO U0 Cl1 Al3 Hf]
  · unfold pend
    isplitr; · iexact HR
    isplitl [HO]; · iexact HO
    isplitl [U0]; · iexact U0
    isplitl [Cl1 Al3]; · isplitl [Cl1] <;> iassumption
    iexact Hf
  iintro ⟨HO, U0, Hrlfq, Hf⟩
  dsimp only
  rw [WP_bind]
  iapply (part22 m ρ K c v5) $$ [HO Cl2 Al4 Hf]
  · unfold pend
    isplitr; · iexact HR
    isplitl [HO]; · iexact HO
    isplitl [Cl2 Al4]; · isplitl [Cl2] <;> iassumption
    iexact Hf
  iintro ⟨HO, Hrlfo, Hf⟩
  rw [WP_bind]
  iapply (part23 m ρ K c v5 v7) $$ [HO Hrlfo Cr1 Ar3 Hf]
  · unfold pend
    isplitr; · iexact HR
    isplitl [HO]; · iexact HO
    isplitl [Hrlfo]; · iexact Hrlfo
    isplitl [Cr1 Ar3]; · isplitl [Cr1] <;> iassumption
    iexact Hf
  iintro ⟨HO, Hrlfo, Hrrtq, Hf⟩
  dsimp only
  rw [WP_bind]
  iapply (part24 m ρ K c v7 v9) $$ [HO Cr2 Ar4 Hf]
  · unfold pend
    isplitr; · iexact HR
    isplitl [HO]; · iexact HO
    isplitl [Cr2 Ar4]; · isplitl [Cr2] <;> iassumption
    iexact Hf
  iintro ⟨HO, Hrrto, Hf⟩
  rw [WP_bind]
  iapply (part25 m ρ K c v9) $$ [HO Co1 Ao3 Hf]
  · unfold pend
    isplitr; · iexact HR
    isplitl [HO]; · iexact HO
    isplitl [Co1 Ao3]; · isplitl [Co1] <;> iassumption
    iexact Hf
  iintro ⟨HO, Hropq, Hf⟩
  dsimp only
  rw [WP_bind]
  iapply (part26 m ρ K c v9) $$ [HO Co2 Ao4 Hsopq Hsrtq Hslfq Hf]
  · isplitr; · iexact HR
    isplitl [HO]; · iexact HO
    isplitl [Co2 Ao4]
    · unfold pend; isplitl [Co2] <;> iassumption
    isplitl [Hsopq]; · iexact Hsopq
    isplitl [Hsrtq]; · iexact Hsrtq
    isplitl [Hslfq] <;> iassumption
  iintro ⟨HO, Hropo, Hsopq, Hsrtq, Hslfq, Hf⟩
  simp only [Prog.lift, Prog.bind_op, Prog.bind_ret, Prog.pure_eq_ret]
  iapply (wp_waitSO m ρ K c (op c) (op_ne c) (sem_op _ c)) $$ [HO Hsopo]
  · isplitr; · iexact HR
    isplitl [HO] <;> iassumption
  iintro ⟨HO, Hsopo⟩
  iapply (wp_waitSO m ρ K c (rt c) (rt_ne c) (sem_rt _ c)) $$ [HO Hsrto]
  · isplitr; · iexact HR
    isplitl [HO] <;> iassumption
  iintro ⟨HO, Hsrto⟩
  iapply (wp_waitSO m ρ K c (lf c) (lf_ne c) (sem_lf _ c)) $$ [HO Hslfo]
  · isplitr; · iexact HR
    isplitl [HO] <;> iassumption
  iintro ⟨HO, Hslfo⟩
  iapply (wp_load 𝒱₀ (c : Thread nD τ) none Set.univ (m := M5) (Finset.subset_univ _)) $$ H5; iintro H5
  iapply (wp_store 𝒱₀ (c : Thread nD τ) none Set.univ (m := M5) (r := Rect.unit (s := S2x128x512) ![0, 0, 0] S2x128x512.size inb_S2x128x512_S2x128x512_0_0_0) (Mk := Finset.univ) (Finset.subset_univ _)) $$ H5; iintro H5
  rw [show ∀ v, (M5.access (Rect.unit (s := S2x128x512) ![0, 0, 0] S2x128x512.size inb_S2x128x512_S2x128x512_0_0_0)).write (Elt F) f5 v Finset.univ = v from fun v => Memref.write_access_unit_zero_univ (Elt F) cc0_stg5_0 hz3 _ f5 v]
  rw [wp_ret]
  imod (own_zero m ρ K c) $$ [Hown] with Hown
  · isplitr; · iexact HR
    unfold peerAt; iexact Hown
  imodintro
  unfold fill
  icases Hf with ⟨H2, H3, H10, H11⟩
  iapply Hk
  isplitl [HzB Hown S0 U0 Q0 R0 Hsopq Hsrtq Hslfq Hsopo Hsrto Hslfo Hrlfq Hrlfo Hrrtq Hrrto Hropq Hropo H10 H11]
  · iapply (finish m ρ c (ins m ρ c).k (ins m ρ c).v)
    unfold peerDone
    isplitl [HzB]; · iexact HzB
    isplitl [Hown]; · iexact Hown
    isplitl [S0]; · iexact S0
    isplitl [U0]; · iexact U0
    isplitl [Q0]; · iexact Q0
    isplitl [R0]; · iexact R0
    isplitl [Hslfq Hslfo Hrlfq Hrlfo]
    · isplitl [Hslfq]; · iexact Hslfq
      isplitl [Hslfo]; · iexact Hslfo
      isplitl [Hrlfq] <;> iassumption
    isplitl [Hsrtq Hsrto Hrrtq Hrrto]
    · isplitl [Hsrtq]; · iexact Hsrtq
      isplitl [Hsrto]; · iexact Hsrto
      isplitl [Hrrtq] <;> iassumption
    isplitl [Hsopq Hsopo Hropq Hropo]
    · isplitl [Hsopq]; · iexact Hsopq
      isplitl [Hsopo]; · iexact Hsopo
      isplitl [Hropq] <;> iassumption
    isplitl [H10] <;> iassumption
  isplitl [HO]; · iexact HO
  isplitl [H0]; · iexact H0
  isplitl [H1]; · iexact H1
  isplitl [H2]; · iexact H2
  isplitl [H3]; · iexact H3
  isplitl [H4]; · iexact H4
  iexact H5

end Cert.KernelIdealRun

end
-- ==== Proof.Launch.lean ====
/-
# The launch

The body at the library's obligation, the ghost state dealt and exchanged among the devices, and the run of the program:
from any memory with zero counters it ends, each device's arrays at contents named here and every counter at zero.
-/
module

public import proofs.«01_k».proof.Proof.Body
public import Idealize.ShloMosaic.Lib.Pipeline.Kit
public import Idealize.ShloMosaic.Lib.Pipeline.CollectiveSegs

@[expose] public section

set_option synthInstance.maxSize 4096

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- What a device's body starts from besides its buffers. -/
def start (c : Dev nD) : sProp 𝕄 :=
  iprop((∃ K, records m ρ K ∗ linear (F := F) c) ∗ credits (F := F) c ∗ levAts L lv)

def Φ₀ (c : Dev nD) : sProp 𝕄 := iprop(start m ρ c ∗ bufs (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m ρ c).x
    | ⟨1, _⟩ => stgQ m ρ c
    | ⟨2, _⟩ => (ins m ρ c).k
    | ⟨3, _⟩ => (ins m ρ c).v
    | ⟨4, _⟩ => stgO m ρ c
    | ⟨5, _⟩ => outV c (ins m ρ c)
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem bigSep_W (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

abbrev tp : Fin cfg0.N := t0_0
theorem fin_N (t : Fin cfg0.N) : t = tp := fin_N0 t

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer known to hold `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before0 (c : Dev nD) (d) : (dats m ρ 0 c).before (0 : Fin 6) tp d = (ins m ρ c).x := by
  unfold Dat.before
  rw [if_pos (show (cfg0.win (0 : Fin 6)).fetch tp = true from rfl)]
  rfl
theorem before1 (c : Dev nD) (d) : (dats m ρ 0 c).before (1 : Fin 6) tp d = stgQ m ρ c := by
  unfold Dat.before
  rw [if_pos (show (cfg0.win (1 : Fin 6)).fetch tp = true from rfl)]
  rfl
theorem before2 (c : Dev nD) (d) : (dats m ρ 0 c).before (2 : Fin 6) tp d = (ins m ρ c).k := by
  unfold Dat.before
  rw [if_pos (show (cfg0.win (2 : Fin 6)).fetch tp = true from rfl)]
  rfl
theorem before3 (c : Dev nD) (d) : (dats m ρ 0 c).before (3 : Fin 6) tp d = (ins m ρ c).v := by
  unfold Dat.before
  rw [if_pos (show (cfg0.win (3 : Fin 6)).fetch tp = true from rfl)]
  rfl
theorem before4 (c : Dev nD) (d) : (dats m ρ 0 c).before (4 : Fin 6) tp d = stgO m ρ c := by
  unfold Dat.before
  rw [if_pos (show (cfg0.win (4 : Fin 6)).fetch tp = true from rfl)]
  rfl

def bodyPre (c : Dev nD) : sProp 𝕄 :=
  iprop(Φ₀ m ρ c ∗ (dats m ρ 0 c).owesAt () tp.castSucc
    ∗ (∃ d, stg c cc0_stg0_0 ((dats m ρ 0 c).before (0 : Fin 6) tp d))
    ∗ (∃ d, stg c cc0_stg1_0 ((dats m ρ 0 c).before (1 : Fin 6) tp d))
    ∗ (∃ d, stg c cc0_stg2_0 ((dats m ρ 0 c).before (2 : Fin 6) tp d))
    ∗ (∃ d, stg c cc0_stg3_0 ((dats m ρ 0 c).before (3 : Fin 6) tp d))
    ∗ (∃ d, stg c cc0_stg4_0 ((dats m ρ 0 c).before (4 : Fin 6) tp d))
    ∗ (∃ d, stg c cc0_stg5_0 ((dats m ρ 0 c).before (5 : Fin 6) tp d)))
def bodyPost (c : Dev nD) : sProp 𝕄 :=
  iprop(Φ₁ (F := F) c ∗ (dats m ρ 0 c).owesAt () tp.succ
    ∗ stg c cc0_stg0_0 ((ins m ρ c).x)
    ∗ stg c cc0_stg1_0 (stgQ m ρ c)
    ∗ stg c cc0_stg2_0 ((ins m ρ c).k)
    ∗ stg c cc0_stg3_0 ((ins m ρ c).v)
    ∗ stg c cc0_stg4_0 (stgO m ρ c)
    ∗ stg c cc0_stg5_0 (outV c (ins m ρ c)))

set_option pp.maxSteps 800 in
set_option maxRecDepth 40000 in
set_option maxHeartbeats 1000000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ WP c (cc0_body (F := F) M0 (Memref.isWhole_whole _) M1 (Memref.isWhole_whole _) M2 (Memref.isWhole_whole _) M3 (Memref.isWhole_whole _) M4 (Memref.isWhole_whole _) M5 (Memref.isWhole_whole _) M6 (Memref.isWhole_whole _) M7 (Memref.isWhole_whole _) M8 (Memref.isWhole_whole _) M9 (Memref.isWhole_whole _) M10 (Memref.isWhole_whole _) M11 (Memref.isWhole_whole _) cc0_scratch6 cc0_scratch7 cc0_scratch8 cc0_scratch9) (fun _ => bodyPost m ρ c)
  unfold bodyPre Φ₀ start
  iintro ⟨⟨⟨⟨%K, #HR, Hlin⟩, Hcr, Hlev⟩, Hb⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  rw [before0] at h0
  rw [before1] at h1
  rw [before2] at h2
  rw [before3] at h3
  rw [before4] at h4
  subst h0 h1 h2 h3 h4
  iapply (sound_body m ρ K c g5 fun _ => bodyPost m ρ c) $$ [Hlin Hcr Hlev Hb Ho H0 H1 H2 H3 H4 H5]
  · isplitl [Hlin Hcr Hlev Hb]
    · isplitr; · iexact HR
      isplitl [Hlev]; · iexact Hlev
      isplitl [Hlin]; · iexact Hlin
      isplitl [Hcr] <;> iassumption
    isplitl [Ho]
    · unfold Dat.owesAt Pipeline.owesWithin owesE
      icases Ho with ⟨%W, %hW, HO⟩
      iexists W; iexact HO
    unfold stages
    isplitl [H0]; · iexact H0
    isplitl [H1]; · iexact H1
    isplitl [H2]; · iexact H2
    isplitl [H3]; · iexact H3
    isplitl [H4]; · iexact H4
    iexact H5
  unfold stages bodyPost owesE Dat.owesAt Pipeline.owesWithin
  rw [show (dats m ρ 0 c).owed tp.succ = 0 from rfl]
  iintro ⟨HΦ, ⟨%W, HO⟩, H0, H1, H2, H3, H4, H5⟩
  isplitl [HΦ]; · iexact HΦ
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

/-! ## The launch -/

theorem ownSemFacts : Pipeline.OwnSemFacts cfg0.spec osem := by decide +kernel

theorem share_eq (c : Dev nD) (w : Fin cfg0.W) : (dats m ρ 0 c).share w = fullShare := by unfold Dat.share; split <;> rfl

def exCells : Finset (GSem nD τ sig) := Finset.univ.map ⟨kcell, kcell_injective⟩

/-- A device's cells' tokens as minted: one per payer of its barrier, one per transfer cell. -/
abbrev TokIx : Type := Dev nD ⊕ Key
def tokOf (x : Dev nD × TokIx) : GSem nD τ sig × ℕ × Dev nD :=
  (kcell (x.1, x.2.elim (fun _ => .inl ()) .inr), 0, x.2.elim id fun _ => 0)
theorem tokOf_injective : Function.Injective tokOf := by
  rintro ⟨c, j⟩ ⟨c', j'⟩ h
  have h1 := kcell_injective (congrArg Prod.fst h)
  have h2 : j.elim id (fun _ => 0) = j'.elim id (fun _ => 0) := congrArg (fun x : GSem nD τ sig × ℕ × Dev nD => x.2.2) h
  have h3 : c = c' := congrArg Prod.fst h1
  have h4 : j.elim (fun _ => (Sum.inl () : CKey)) .inr = j'.elim (fun _ => .inl ()) .inr := congrArg Prod.snd h1
  subst h3
  rcases j with d | k <;> rcases j' with d' | k'
  · exact congrArg (fun d => (c, Sum.inl d)) h2
  · cases h4
  · cases h4
  · exact congrArg (fun k => (c, Sum.inr k)) (Sum.inr.inj h4)
def exToks : Finset (GSem nD τ sig × ℕ × Dev nD) := Finset.univ.map ⟨tokOf, tokOf_injective⟩

def u₀ : UU :=
  (initOf (Pipeline.cells cfgs cellOf_inj) (Pipeline.launchToks cfgs cellOf_inj), initOf exCells exToks)

/-- The tokens of device `c`'s own cells. -/
def toks (c : Dev nD) : sProp 𝕄 :=
  iprop((bigSep Finset.univ fun d : Dev nD => dutyTok ER (barCell c) 0 d)
    ∗ bigSep Finset.univ fun d : Dev nD => iprop(dutyTok ER (xCell c d false false) 0 0 ∗ dutyTok ER (xCell c d false true) 0 0
        ∗ dutyTok ER (xCell c d true false) 0 0 ∗ dutyTok ER (xCell c d true true) 0 0))

def G (c : Dev nD) : sProp 𝕄 :=
  iprop((bigSep Finset.univ fun k : CKey => roundState ER (exRd m ρ) (kcell (c, k)) 0)
    ∗ ((bigSep Finset.univ fun k : CKey => atPos ER (kcell (c, k)) 0 ∅ 0) ∗ bigSep Finset.univ fun k : CKey => reached ER (kcell (c, k)) 0) ∗ toks (F := F) c)

def G' (c : Dev nD) : sProp 𝕄 := iprop(∃ K, records m ρ K ∗ linear (F := F) c)

theorem toks_eq (c : Dev nD) : bigSep Finset.univ (fun j : TokIx => (dutyTok ER (tokOf (c, j)).1 (tokOf (c, j)).2.1 (tokOf (c, j)).2.2 : sProp 𝕄)) = toks (F := F) c := by
  unfold toks
  rw [bigSep_univ_sum, bigSep_univ_prod]
  simp only [bigSep_bb]
  rfl

theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : CKey => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks (F := F) c := by
    unfold exToks; rw [bigSep_map, bigSep_univ_prod]
    exact bigSep_congr fun c _ => toks_eq c
  iintro HX
  imod (Rounds.fund ER (exRd m ρ) exCells exToks) $$ HX with ⟨Hst, Hr, Hat, Htok⟩
  imodintro
  ihave Hst' := (Entails.of_eq (hX fun g => roundState ER (exRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ fun d : Dev nD => peerZero (F := F) c d := by
  unfold Pipeline.ownSems0 peerZero
  rw [bigSep_univ_prod]
  simp only [bigSep_bb]
  rfl
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CKey => semVal (kcell (c, k)) 0 : sProp 𝕄) := by
  rw [ownSems0_eq, unscopedSems0_eq, bigSep_ckey]
  unfold peerZero
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CKey => iprop(∃ κ : ℕ, cellInv ER (exRd m ρ) κ (kcell (c, k))))
          ∗ ((bigSep Finset.univ fun k : CKey => atPos ER (kcell (c, k)) 0 ∅ 0) ∗ bigSep Finset.univ fun k : CKey => reached ER (kcell (c, k)) 0) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CKey => semVal (kcell (c, k)) 0) ∗ bigSep Finset.univ fun k : CKey => roundState ER (exRd m ρ) (kcell (c, k)) 0)
      ⊢ (|={Set.univ}=> bigSep Finset.univ fun k : CKey => iprop(∃ κ : ℕ, cellInv ER (exRd m ρ) κ (kcell (c, k))) : sProp 𝕄) from by
        rw [← bigSep_sep']
        exact (bigSep_mono fun k _ => (Rounds.body_intro ER (exRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A conjunction over pairs of devices, the pair turned round. -/
theorem bigSep_turn (Φ : Dev nD → Dev nD → sProp 𝕄) :
    (bigSep Finset.univ fun c : Dev nD => bigSep Finset.univ fun d : Dev nD => Φ c d) = bigSep Finset.univ fun c : Dev nD => bigSep Finset.univ fun d : Dev nD => Φ d c := by
  rw [← bigSep_univ_prod (fun x : Dev nD × Dev nD => Φ x.1 x.2), ← bigSep_univ_prod (fun x : Dev nD × Dev nD => Φ x.2 x.1),
    bigSep_univ_equiv (Equiv.prodComm (Dev nD) (Dev nD)) (fun x : Dev nD × Dev nD => Φ x.1 x.2)]
  rfl

/-- The tokens dealt to their payers. -/
theorem toks_around : (bigSep Finset.univ fun c : Dev nD => toks (F := F) c) ⊢ bigSep Finset.univ fun c : Dev nD => bigSep Finset.univ fun d : Dev nD => payTok (F := F) c d := by
  unfold toks payTok
  simp only [bigSep_sep']
  rw [bigSep_turn fun c d => (dutyTok ER (barCell c) 0 d : sProp 𝕄), bigSep_turn fun c d => (dutyTok ER (xCell c d true false) 0 0 : sProp 𝕄),
    bigSep_turn fun c d => (dutyTok ER (xCell c d true true) 0 0 : sProp 𝕄)]
  iintro ⟨H1, H2, H3, H4, H5⟩
  isplitl [H1]; · iexact H1
  isplitl [H4]; · iexact H4
  isplitl [H5]; · iexact H5
  isplitl [H2] <;> iassumption

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem atPos_eq (c : Dev nD) : bigSep Finset.univ (fun k : CKey => (atPos ER (kcell (c, k)) 0 ∅ 0 : sProp 𝕄))
    = iprop(atPos ER (barCell c) 0 ∅ 0 ∗ bigSep Finset.univ fun d : Dev nD => peerAt (F := F) c d) := by
  rw [bigSep_ckey]; rfl

theorem regroup :
    (bigSep Finset.univ fun c : Dev nD => iprop((bigSep Finset.univ fun k : CKey => iprop(∃ κ : ℕ, cellInv ER (exRd m ρ) κ (kcell (c, k))))
          ∗ ((bigSep Finset.univ fun k : CKey => atPos ER (kcell (c, k)) 0 ∅ 0) ∗ bigSep Finset.univ fun k : CKey => reached ER (kcell (c, k)) 0) ∗ toks (F := F) c) : sProp 𝕄)
      ⊢ bigSep Finset.univ (G' m ρ) := by
  rw [bigSep_sep', bigSep_sep', bigSep_sep', ← bigSep_univ_prod (fun ck : Dev nD × CKey => iprop(∃ κ : ℕ, cellInv ER (exRd m ρ) κ (kcell ck))),
    ← bigSep_univ_prod (fun ck : Dev nD × CKey => (reached ER (kcell ck) 0 : sProp 𝕄))]
  iintro ⟨HI, ⟨Hat, #HR⟩, Htok⟩
  ihave HK := (BI.bigSep_exists_pi Finset.univ (fun (ck : Dev nD × CKey) (κ : ℕ) => (cellInv ER (exRd m ρ) κ (kcell ck) : sProp 𝕄))) $$ HI
  icases HK with ⟨%K, #HI⟩
  ihave Htk := (toks_around (F := F)) $$ Htok
  iapply (bigSep_with_persistent (R := records m ρ K) (Φ := fun c => linear (F := F) c) fun c _ => by
    unfold G'
    iintro ⟨#H1, H2⟩
    iexists K
    isplitr; · iexact H1
    iexact H2)
  isplitr
  · unfold records; isplitl; · iexact HI
    iexact HR
  · iapply ((Entails.of_eq (bigSep_sep' Finset.univ (fun c : Dev nD => bigSep Finset.univ fun k : CKey => (atPos ER (kcell (c, k)) 0 ∅ 0 : sProp 𝕄))
        (fun c : Dev nD => bigSep Finset.univ fun d : Dev nD => payTok (F := F) c d)).symm).trans
      (bigSep_mono fun c _ => show _ ⊢ linear (F := F) c from by
        rw [atPos_eq]; unfold linear
        iintro ⟨⟨H1, H2⟩, H3⟩
        isplitl [H1]; · iexact H1
        isplitl [H2] <;> iassumption))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G' credits
  isplitl
  · isplitl [HG]; · iexact HG
    isplitl [Hc] <;> iassumption
  · iempintro

theorem bufs_eq (c : Dev nD) : (Pipeline.scopedRest (Ix := Unit) (Name := ℕ) (U := UU) (Lvl := ℕ) (Val := Elt F) cfg0.spec c : sProp 𝕄) = bufs (F := F) c := by
  rw [show (Pipeline.scopedRest (Ix := Unit) (Name := ℕ) (U := UU) (Lvl := ℕ) (Val := Elt F) cfg0.spec c : sProp 𝕄) = Pipeline.scopedRest spec0 c from rfl, scopedRest0_eq]; rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, bufs_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, bufs_eq, ownSems0_eq, unscopedSems0_eq]
  exact .rfl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by revert w s; decide +kernel) _ (by
      rcases t with ⟨_ | _, ht⟩
      · exact Or.inl rfl
      · exact Or.inr rfl)

/-! ### The run -/

/-- A window's array on device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => block_pos0 w) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments after the run hold what they held. -/
theorem finalA_in (c : Dev nD) (w : Fin 6) (hw : w ≠ 5) : finalA m ρ c w = (s₀ m ρ).mem ((cfg0.win w).arr.view.loc (c : Thread nD τ)) :=
  (dats (F := F) m ρ 0 c).arrAt_in w (by revert w; decide) _

end Cert.KernelIdealRun

end
-- ==== Proof.Frame.lean ====
/-
# The frame of the idealized kernel

The program's run read at its arguments: they end as they began, and every counter at zero.
-/
module

public import proofs.«01_k».proof.Proof.Launch
public import Idealize.ShloMosaic.PureOps.Ideal

@[expose] public section

noncomputable section

namespace Cert.KernelIdealRun

open Cert.KernelIdeal Cert.KernelIdeal.Gen Idealize.ShloMosaic Idealize.ShloMosaic.TcCoe Idealize.SL.Sem

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run (defs (F := Ideal)) _ _).mono (fun r (h : QC m g r ∧ r.2.sem = fun _ => 0) => ⟨fun c => ⟨(h.1 c (0 : Fin 6)).trans (finalA_in m g c 0 (by decide)),
      (h.1 c (1 : Fin 6)).trans (finalA_in m g c 1 (by decide)),
      (h.1 c (2 : Fin 6)).trans (finalA_in m g c 2 (by decide)),
      (h.1 c (3 : Fin 6)).trans (finalA_in m g c 3 (by decide)),
      (h.1 c (4 : Fin 6)).trans (finalA_in m g c 4 (by decide))⟩, h.2⟩) (run_main (F := Ideal) m g)

end Cert.KernelIdealRun

end
-- ==== Proof.RefFrame.lean ====
/-
# The frame of the reference
-/
module

public import proofs.«01_k».proof.Proof.Gen.ReferenceIdeal.Run
public import Idealize.ShloMosaic.Lib.Quiescent
public import Idealize.ShloMosaic.PureOps.Ideal

@[expose] public section

noncomputable section

namespace Cert.ReferenceIdealRun

open Cert.ReferenceIdeal Cert.ReferenceIdeal.Gen Idealize.ShloMosaic Idealize.ShloMosaic.TcCoe Idealize.SL.Sem

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems rfl _⟩) (Cert.ReferenceIdeal.Value.run m g)

end Cert.ReferenceIdealRun

end
-- ==== Proof.Bits.Frame.lean ====
/-
# The frame of the kernel

The program's run read at its arguments: they end as they began, and every counter at zero.
-/
module

public import proofs.«01_k».proof.Proof.Bits.Launch
public import Idealize.ShloMosaic.PureOps.BitExact

@[expose] public section

noncomputable section

namespace Cert.KernelRun

open Cert.Kernel Cert.Kernel.Gen Idealize.ShloMosaic Idealize.ShloMosaic.TcCoe Idealize.SL.Sem

theorem frame (m : (ℓ : Loc nD τ sig) → Buf (Elt Bits) ℓ) (g : Dev nD → PrngReg) :
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run (defs (F := Bits)) _ _).mono (fun r (h : QC m g r ∧ r.2.sem = fun _ => 0) => ⟨fun c => ⟨(h.1 c (0 : Fin 6)).trans (finalA_in m g c 0 (by decide)),
      (h.1 c (1 : Fin 6)).trans (finalA_in m g c 1 (by decide)),
      (h.1 c (2 : Fin 6)).trans (finalA_in m g c 2 (by decide)),
      (h.1 c (3 : Fin 6)).trans (finalA_in m g c 3 (by decide)),
      (h.1 c (4 : Fin 6)).trans (finalA_in m g c 4 (by decide))⟩, h.2⟩) (run_main (F := Bits) m g)

end Cert.KernelRun

end
-- ==== Proof.Final.lean ====
/-
# What a device's arrays hold after the run

Every window of the one grid point is its whole array: what the body reads is the arguments, and what it stores is the result.
-/
module

public import proofs.«01_k».proof.Proof.Launch
public import Idealize.ShloMosaic.Lib.Pipeline.Value
public import Idealize.ShloMosaic.Lib.Pipeline.ValueKit.Geometry

@[expose] public section

set_option synthInstance.maxSize 4096

noncomputable section

namespace Cert.KernelIdealRun

open Cert.KernelIdeal Cert.KernelIdeal.Gen
open Idealize.ShloMosaic
open Idealize.ShloMosaic.TcCoe

variable {F : FTy → Type} [FloatOps F] [Named F]
variable (m : (ℓ : Loc nD τ sig) → Buf (Elt F) ℓ) (ρ : Dev nD → PrngReg) (c : Dev nD)

theorem ins_x : (ins m ρ c).x = m ((c : Thread nD τ).loc main_arg0) := by
  funext i
  refine congrArg (m ((c : Thread nD τ).loc main_arg0)) ?_
  funext a
  fin_cases a <;> exact Fin.ext (by show 0 * _ + 1 * _ = _; rw [Nat.zero_mul, Nat.zero_add, Nat.one_mul])

theorem ins_k : (ins m ρ c).k = m ((c : Thread nD τ).loc main_arg2) := by
  funext i
  refine congrArg (m ((c : Thread nD τ).loc main_arg2)) ?_
  funext a
  fin_cases a <;> exact Fin.ext (by show 0 * _ + 1 * _ = _; rw [Nat.zero_mul, Nat.zero_add, Nat.one_mul])

theorem ins_v : (ins m ρ c).v = m ((c : Thread nD τ).loc main_arg3) := by
  funext i
  refine congrArg (m ((c : Thread nD τ).loc main_arg3)) ?_
  funext a
  fin_cases a <;> exact Fin.ext (by show 0 * _ + 1 * _ = _; rw [Nat.zero_mul, Nat.zero_add, Nat.one_mul])

theorem ins_q : (ins m ρ c).q = fun d => m (((d : Dev nD) : Thread nD τ).loc main_arg1) := by
  funext d
  show k0_pay2 (stgQ m ρ d) = _
  unfold k0_pay2
  simp only [shapeCast_self]
  funext i
  refine congrArg (m ((d : Thread nD τ).loc main_arg1)) ?_
  funext a
  fin_cases a <;> exact Fin.ext (by show 0 * _ + 1 * _ = _; rw [Nat.zero_mul, Nat.zero_add, Nat.one_mul])

theorem ins_o : (ins m ρ c).o = fun d => m (((d : Dev nD) : Thread nD τ).loc main_arg4) := by
  funext d
  show k0_pay3 (stgO m ρ d) = _
  unfold k0_pay3
  simp only [shapeCast_self]
  funext i
  refine congrArg (m ((d : Thread nD τ).loc main_arg4)) ?_
  funext a
  fin_cases a <;> exact Fin.ext (by show 0 * _ + 1 * _ = _; rw [Nat.zero_mul, Nat.zero_add, Nat.one_mul])

/-- The result array holds what the body stored. -/
theorem finalA_out : finalA m ρ c (5 : Fin 6) = outV c (ins m ρ c) := by
  funext i
  exact (dats m ρ 0 c).arrAt_emb_eq_after_last (5 : Fin 6) tp (by decide +kernel) i

end Cert.KernelIdealRun

end
-- ==== Proof.Finite.lean ====
/-
# What the precondition says

The precondition compares the size of every element of the input, of the query weights and of the keys with infinity, and
asks that every comparison hold: so those elements are real numbers.
-/
module

public import proofs.«01_k».proof.Defs
public import Idealize.ShloMosaic.Lib.ReduceAll
public import Idealize.ShloMosaic.PureOps.Ideal.Laws

@[expose] public section

noncomputable section

namespace Cert.Finite

open Idealize.ShloMosaic

theorem inf_f32 : Ideal.ofBits .f32 0x7F800000#32 = (⊤ : EReal) := by
  simp [Ideal.ofBits, Ideal.ieee]

/-- An extended real whose size is below infinity is a real number. -/
theorem real_of_abs (a : EReal) (h : Ideal.cmp .olt (max a (-a)) ⊤ = 1#1) : ∃ x : ℝ, a = (x : EReal) := by
  induction a using EReal.rec with
  | bot => exact absurd h (by simp [Ideal.cmp])
  | coe x => exact ⟨x, rfl⟩
  | top => exact absurd h (by simp [Ideal.cmp])

instance : Subsingleton (Cert.Pre_finite_scores_inputs_KernelIdeal.S_.Idx) := ⟨fun _ _ => funext fun a => a.elim0⟩

theorem facts : Cert.Pre_finite_scores_inputs_KernelIdeal.Facts := by constructor <;> decide
theorem facts' : Cert.Pre_finite_scores_inputs_ReferenceIdeal.Facts := by constructor <;> decide

section
open Cert.Pre_finite_scores_inputs_KernelIdeal
variable [hF : Cert.Pre_finite_scores_inputs_KernelIdeal.Facts]

/-- Every element of the input, of the query weights and of the keys is a real number. -/
theorem reals (a0 : FVec Ideal S2x128x512 .bf16) (a1 : FVec Ideal S512x256 .bf16) (a2 a3 : FVec Ideal S2x128x16x64 .bf16) (a4 : FVec Ideal S256x512 .bf16)
    (h : fn (F := Ideal) a0 a1 a2 a3 a4 = fun _ => 1#1) :
    (∀ i, ∃ x : ℝ, (a0 i : EReal) = x) ∧ (∀ i, ∃ x : ℝ, (a1 i : EReal) = x) ∧ (∀ i, ∃ x : ℝ, (a2 i : EReal) = x) := by
  have h0 := congrFun h (fun a => a.elim0)
  obtain ⟨h01, h2⟩ := IntOp.andi_eq_one.1 h0
  obtain ⟨h0, h1⟩ := IntOp.andi_eq_one.1 h01
  refine ⟨fun i => real_of_abs _ ?_, fun i => real_of_abs _ ?_, fun i => real_of_abs _ ?_⟩
  · rw [← inf_f32]; exact Host.reduce_andi_all _ _ _ _ _ h0 i
  · rw [← inf_f32]; exact Host.reduce_andi_all _ _ _ _ _ h1 i
  · rw [← inf_f32]; exact Host.reduce_andi_all _ _ _ _ _ h2 i

end

end Cert.Finite

end
-- ==== Proof.Products.lean ====
/-
# The kernel's products, read at an index

Each matrix product of the body at one element of its result, over the extended reals: the sum over the contracted
coordinate of the operands' products.
-/
module

public import proofs.«01_k».proof.Proof.Out
public import Idealize.ShloMosaic.PureOps.Ideal
public import Idealize.ShloMosaic.PureOps.Ideal.Laws
public import Idealize.ShloMosaic.Lib.ValueIdx
public import Idealize.ShloMosaic.Lib.ValueIdxCore
public import Idealize.ShloMosaic.Lib.Pipeline.Value

@[expose] public section

set_option synthInstance.maxSize 4096

noncomputable section

namespace Cert.KernelIdealRun

open Cert.KernelIdeal Cert.KernelIdeal.Gen
open Idealize.ShloMosaic Idealize.ShloMosaic.ValueIdx
open scoped BigOperators

theorem mq_l0 (i : S256x256.Idx) (q : dot_S256x512_S512x256_S256x256_1_0_0_1_n_n.contr.Idx) : (dot_S256x512_S512x256_S256x256_1_0_0_1_n_n.lhsIdx i q 0).val = (i 0).val := by
  unfold DotDims.lhsIdx
  rw [dif_neg (show ¬(0 : Fin S256x512.rank) ∈ dot_S256x512_S512x256_S256x256_1_0_0_1_n_n.lhsBatch by decide), dif_pos (show (0 : Fin S256x512.rank) ∈ dot_S256x512_S512x256_S256x256_1_0_0_1_n_n.lhsNonContracting by decide)]
  rfl
theorem mq_l1 (i : S256x256.Idx) (q : dot_S256x512_S512x256_S256x256_1_0_0_1_n_n.contr.Idx) : (dot_S256x512_S512x256_S256x256_1_0_0_1_n_n.lhsIdx i q 1).val = (q ⟨0, by decide⟩).val :=
  dot_S256x512_S512x256_S256x256_1_0_0_1_n_n.lhsIdx_val_of_single rfl i q
theorem mq_r0 (i : S256x256.Idx) (q : dot_S256x512_S512x256_S256x256_1_0_0_1_n_n.contr.Idx) : (dot_S256x512_S512x256_S256x256_1_0_0_1_n_n.rhsIdx i q 0).val = (q ⟨0, by decide⟩).val :=
  dot_S256x512_S512x256_S256x256_1_0_0_1_n_n.rhsIdx_val_of_single rfl i q
theorem mq_r1 (i : S256x256.Idx) (q : dot_S256x512_S512x256_S256x256_1_0_0_1_n_n.contr.Idx) : (dot_S256x512_S512x256_S256x256_1_0_0_1_n_n.rhsIdx i q 1).val = (i 1).val := by
  unfold DotDims.rhsIdx
  rw [dif_neg (show ¬(1 : Fin S512x256.rank) ∈ dot_S256x512_S512x256_S256x256_1_0_0_1_n_n.rhsBatch by decide), dif_pos (show (1 : Fin S512x256.rank) ∈ dot_S256x512_S512x256_S256x256_1_0_0_1_n_n.rhsNonContracting by decide)]
  rfl
/-- The projection of the input onto a group of heads. -/
theorem mq_apply (x : FVec Ideal S256x512 .bf16) (y : FVec Ideal S512x256 .bf16) (i : S256x256.Idx) :
    matmul dot_S256x512_S512x256_S256x256_1_0_0_1_n_n none x y (constant (F := Ideal) S256x256 .f32 0x00000000#32) i = ∑ k : Fin 512, x (ix2 (i 0) k) * y (ix2 k (i 1)) := by
  refine (Ideal.matmul_constant_zero_apply dot_S256x512_S512x256_S256x256_1_0_0_1_n_n none x y i).trans ?_
  rw [← Equiv.sum_comp (contrEquiv1 dot_S256x512_S512x256_S256x256_1_0_0_1_n_n 512 rfl rfl).symm]
  refine Finset.sum_congr rfl fun k _ => ?_
  have hk := contrEquiv1_symm_val dot_S256x512_S512x256_S256x256_1_0_0_1_n_n 512 rfl rfl k
  have el : dot_S256x512_S512x256_S256x256_1_0_0_1_n_n.lhsIdx i ((contrEquiv1 dot_S256x512_S512x256_S256x256_1_0_0_1_n_n 512 rfl rfl).symm k) = (ix2 (i 0) k : S256x512.Idx) := funext fun a => Fin.ext (by
    match a with
    | ⟨0, _⟩ => exact mq_l0 _ _
    | ⟨1, _⟩ => exact (mq_l1 _ _).trans hk)
  have er : dot_S256x512_S512x256_S256x256_1_0_0_1_n_n.rhsIdx i ((contrEquiv1 dot_S256x512_S512x256_S256x256_1_0_0_1_n_n 512 rfl rfl).symm k) = (ix2 k (i 1) : S512x256.Idx) := funext fun a => Fin.ext (by
    match a with
    | ⟨0, _⟩ => exact (mq_r0 _ _).trans hk
    | ⟨1, _⟩ => exact mq_r1 _ _)
  rw [el, er]

theorem ms_l0 (i : S128x512.Idx) (q : dot_S128x256_S512x256_S128x512_1_1_0_0_n_n.contr.Idx) : (dot_S128x256_S512x256_S128x512_1_1_0_0_n_n.lhsIdx i q 0).val = (i 0).val := by
  unfold DotDims.lhsIdx
  rw [dif_neg (show ¬(0 : Fin S128x256.rank) ∈ dot_S128x256_S512x256_S128x512_1_1_0_0_n_n.lhsBatch by decide), dif_pos (show (0 : Fin S128x256.rank) ∈ dot_S128x256_S512x256_S128x512_1_1_0_0_n_n.lhsNonContracting by decide)]
  rfl
theorem ms_l1 (i : S128x512.Idx) (q : dot_S128x256_S512x256_S128x512_1_1_0_0_n_n.contr.Idx) : (dot_S128x256_S512x256_S128x512_1_1_0_0_n_n.lhsIdx i q 1).val = (q ⟨0, by decide⟩).val :=
  dot_S128x256_S512x256_S128x512_1_1_0_0_n_n.lhsIdx_val_of_single rfl i q
theorem ms_r0 (i : S128x512.Idx) (q : dot_S128x256_S512x256_S128x512_1_1_0_0_n_n.contr.Idx) : (dot_S128x256_S512x256_S128x512_1_1_0_0_n_n.rhsIdx i q 0).val = (i 1).val := by
  unfold DotDims.rhsIdx
  rw [dif_neg (show ¬(0 : Fin S512x256.rank) ∈ dot_S128x256_S512x256_S128x512_1_1_0_0_n_n.rhsBatch by decide), dif_pos (show (0 : Fin S512x256.rank) ∈ dot_S128x256_S512x256_S128x512_1_1_0_0_n_n.rhsNonContracting by decide)]
  rfl
theorem ms_r1 (i : S128x512.Idx) (q : dot_S128x256_S512x256_S128x512_1_1_0_0_n_n.contr.Idx) : (dot_S128x256_S512x256_S128x512_1_1_0_0_n_n.rhsIdx i q 1).val = (q ⟨0, by decide⟩).val :=
  dot_S128x256_S512x256_S128x512_1_1_0_0_n_n.rhsIdx_val_of_single rfl i q
/-- The scores. -/
theorem ms_apply (x : FVec Ideal S128x256 .bf16) (y : FVec Ideal S512x256 .bf16) (i : S128x512.Idx) :
    matmul dot_S128x256_S512x256_S128x512_1_1_0_0_n_n none x y (constant (F := Ideal) S128x512 .f32 0x00000000#32) i = ∑ k : Fin 256, x (ix2 (i 0) k) * y (ix2 (i 1) k) := by
  refine (Ideal.matmul_constant_zero_apply dot_S128x256_S512x256_S128x512_1_1_0_0_n_n none x y i).trans ?_
  rw [← Equiv.sum_comp (contrEquiv1 dot_S128x256_S512x256_S128x512_1_1_0_0_n_n 256 rfl rfl).symm]
  refine Finset.sum_congr rfl fun k _ => ?_
  have hk := contrEquiv1_symm_val dot_S128x256_S512x256_S128x512_1_1_0_0_n_n 256 rfl rfl k
  have el : dot_S128x256_S512x256_S128x512_1_1_0_0_n_n.lhsIdx i ((contrEquiv1 dot_S128x256_S512x256_S128x512_1_1_0_0_n_n 256 rfl rfl).symm k) = (ix2 (i 0) k : S128x256.Idx) := funext fun a => Fin.ext (by
    match a with
    | ⟨0, _⟩ => exact ms_l0 _ _
    | ⟨1, _⟩ => exact (ms_l1 _ _).trans hk)
  have er : dot_S128x256_S512x256_S128x512_1_1_0_0_n_n.rhsIdx i ((contrEquiv1 dot_S128x256_S512x256_S128x512_1_1_0_0_n_n 256 rfl rfl).symm k) = (ix2 (i 1) k : S512x256.Idx) := funext fun a => Fin.ext (by
    match a with
    | ⟨0, _⟩ => exact ms_r0 _ _
    | ⟨1, _⟩ => exact (ms_r1 _ _).trans hk)
  rw [el, er]

theorem mc_l0 (i : S128x256.Idx) (q : dot_S128x512_S512x256_S128x256_1_0_0_1_n_n.contr.Idx) : (dot_S128x512_S512x256_S128x256_1_0_0_1_n_n.lhsIdx i q 0).val = (i 0).val := by
  unfold DotDims.lhsIdx
  rw [dif_neg (show ¬(0 : Fin S128x512.rank) ∈ dot_S128x512_S512x256_S128x256_1_0_0_1_n_n.lhsBatch by decide), dif_pos (show (0 : Fin S128x512.rank) ∈ dot_S128x512_S512x256_S128x256_1_0_0_1_n_n.lhsNonContracting by decide)]
  rfl
theorem mc_l1 (i : S128x256.Idx) (q : dot_S128x512_S512x256_S128x256_1_0_0_1_n_n.contr.Idx) : (dot_S128x512_S512x256_S128x256_1_0_0_1_n_n.lhsIdx i q 1).val = (q ⟨0, by decide⟩).val :=
  dot_S128x512_S512x256_S128x256_1_0_0_1_n_n.lhsIdx_val_of_single rfl i q
theorem mc_r0 (i : S128x256.Idx) (q : dot_S128x512_S512x256_S128x256_1_0_0_1_n_n.contr.Idx) : (dot_S128x512_S512x256_S128x256_1_0_0_1_n_n.rhsIdx i q 0).val = (q ⟨0, by decide⟩).val :=
  dot_S128x512_S512x256_S128x256_1_0_0_1_n_n.rhsIdx_val_of_single rfl i q
theorem mc_r1 (i : S128x256.Idx) (q : dot_S128x512_S512x256_S128x256_1_0_0_1_n_n.contr.Idx) : (dot_S128x512_S512x256_S128x256_1_0_0_1_n_n.rhsIdx i q 1).val = (i 1).val := by
  unfold DotDims.rhsIdx
  rw [dif_neg (show ¬(1 : Fin S512x256.rank) ∈ dot_S128x512_S512x256_S128x256_1_0_0_1_n_n.rhsBatch by decide), dif_pos (show (1 : Fin S512x256.rank) ∈ dot_S128x512_S512x256_S128x256_1_0_0_1_n_n.rhsNonContracting by decide)]
  rfl
/-- The weighted values. -/
theorem mc_apply (x : FVec Ideal S128x512 .bf16) (y : FVec Ideal S512x256 .bf16) (i : S128x256.Idx) :
    matmul dot_S128x512_S512x256_S128x256_1_0_0_1_n_n none x y (constant (F := Ideal) S128x256 .f32 0x00000000#32) i = ∑ k : Fin 512, x (ix2 (i 0) k) * y (ix2 k (i 1)) := by
  refine (Ideal.matmul_constant_zero_apply dot_S128x512_S512x256_S128x256_1_0_0_1_n_n none x y i).trans ?_
  rw [← Equiv.sum_comp (contrEquiv1 dot_S128x512_S512x256_S128x256_1_0_0_1_n_n 512 rfl rfl).symm]
  refine Finset.sum_congr rfl fun k _ => ?_
  have hk := contrEquiv1_symm_val dot_S128x512_S512x256_S128x256_1_0_0_1_n_n 512 rfl rfl k
  have el : dot_S128x512_S512x256_S128x256_1_0_0_1_n_n.lhsIdx i ((contrEquiv1 dot_S128x512_S512x256_S128x256_1_0_0_1_n_n 512 rfl rfl).symm k) = (ix2 (i 0) k : S128x512.Idx) := funext fun a => Fin.ext (by
    match a with
    | ⟨0, _⟩ => exact mc_l0 _ _
    | ⟨1, _⟩ => exact (mc_l1 _ _).trans hk)
  have er : dot_S128x512_S512x256_S128x256_1_0_0_1_n_n.rhsIdx i ((contrEquiv1 dot_S128x512_S512x256_S128x256_1_0_0_1_n_n 512 rfl rfl).symm k) = (ix2 k (i 1) : S512x256.Idx) := funext fun a => Fin.ext (by
    match a with
    | ⟨0, _⟩ => exact (mc_r0 _ _).trans hk
    | ⟨1, _⟩ => exact mc_r1 _ _)
  rw [el, er]

theorem mo_l0 (i : S256x512.Idx) (q : dot_S256x256_S256x512_S256x512_1_0_0_1_n_n.contr.Idx) : (dot_S256x256_S256x512_S256x512_1_0_0_1_n_n.lhsIdx i q 0).val = (i 0).val := by
  unfold DotDims.lhsIdx
  rw [dif_neg (show ¬(0 : Fin S256x256.rank) ∈ dot_S256x256_S256x512_S256x512_1_0_0_1_n_n.lhsBatch by decide), dif_pos (show (0 : Fin S256x256.rank) ∈ dot_S256x256_S256x512_S256x512_1_0_0_1_n_n.lhsNonContracting by decide)]
  rfl
theorem mo_l1 (i : S256x512.Idx) (q : dot_S256x256_S256x512_S256x512_1_0_0_1_n_n.contr.Idx) : (dot_S256x256_S256x512_S256x512_1_0_0_1_n_n.lhsIdx i q 1).val = (q ⟨0, by decide⟩).val :=
  dot_S256x256_S256x512_S256x512_1_0_0_1_n_n.lhsIdx_val_of_single rfl i q
theorem mo_r0 (i : S256x512.Idx) (q : dot_S256x256_S256x512_S256x512_1_0_0_1_n_n.contr.Idx) : (dot_S256x256_S256x512_S256x512_1_0_0_1_n_n.rhsIdx i q 0).val = (q ⟨0, by decide⟩).val :=
  dot_S256x256_S256x512_S256x512_1_0_0_1_n_n.rhsIdx_val_of_single rfl i q
theorem mo_r1 (i : S256x512.Idx) (q : dot_S256x256_S256x512_S256x512_1_0_0_1_n_n.contr.Idx) : (dot_S256x256_S256x512_S256x512_1_0_0_1_n_n.rhsIdx i q 1).val = (i 1).val := by
  unfold DotDims.rhsIdx
  rw [dif_neg (show ¬(1 : Fin S256x512.rank) ∈ dot_S256x256_S256x512_S256x512_1_0_0_1_n_n.rhsBatch by decide), dif_pos (show (1 : Fin S256x512.rank) ∈ dot_S256x256_S256x512_S256x512_1_0_0_1_n_n.rhsNonContracting by decide)]
  rfl
/-- The output projection. -/
theorem mo_apply (x : FVec Ideal S256x256 .bf16) (y : FVec Ideal S256x512 .bf16) (i : S256x512.Idx) :
    matmul dot_S256x256_S256x512_S256x512_1_0_0_1_n_n none x y (constant (F := Ideal) S256x512 .f32 0x00000000#32) i = ∑ k : Fin 256, x (ix2 (i 0) k) * y (ix2 k (i 1)) := by
  refine (Ideal.matmul_constant_zero_apply dot_S256x256_S256x512_S256x512_1_0_0_1_n_n none x y i).trans ?_
  rw [← Equiv.sum_comp (contrEquiv1 dot_S256x256_S256x512_S256x512_1_0_0_1_n_n 256 rfl rfl).symm]
  refine Finset.sum_congr rfl fun k _ => ?_
  have hk := contrEquiv1_symm_val dot_S256x256_S256x512_S256x512_1_0_0_1_n_n 256 rfl rfl k
  have el : dot_S256x256_S256x512_S256x512_1_0_0_1_n_n.lhsIdx i ((contrEquiv1 dot_S256x256_S256x512_S256x512_1_0_0_1_n_n 256 rfl rfl).symm k) = (ix2 (i 0) k : S256x256.Idx) := funext fun a => Fin.ext (by
    match a with
    | ⟨0, _⟩ => exact mo_l0 _ _
    | ⟨1, _⟩ => exact (mo_l1 _ _).trans hk)
  have er : dot_S256x256_S256x512_S256x512_1_0_0_1_n_n.rhsIdx i ((contrEquiv1 dot_S256x256_S256x512_S256x512_1_0_0_1_n_n 256 rfl rfl).symm k) = (ix2 k (i 1) : S256x512.Idx) := funext fun a => Fin.ext (by
    match a with
    | ⟨0, _⟩ => exact (mo_r0 _ _).trans hk
    | ⟨1, _⟩ => exact mo_r1 _ _)
  rw [el, er]

end Cert.KernelIdealRun

end
-- ==== Proof.Blocks.lean ====
/-
# The block-diagonal buffers, read at an index

After the thirty-two stores of the fill, a panel holds one head's keys (or values) in each of its four diagonal blocks
and zero off the diagonal.
-/
module

public import proofs.«01_k».proof.Proof.Products

@[expose] public section

set_option synthInstance.maxSize 4096

noncomputable section

namespace Cert.KernelIdealRun

open Cert.KernelIdeal Cert.KernelIdeal.Gen
open Idealize.ShloMosaic Idealize.ShloMosaic.ValueIdx
open scoped BigOperators

/-- A stored block at an index: the head's row and lane. -/
theorem blkV_apply (X : Vec Ideal S2x128x16x64 .bf16) (n : ℕ) (i : S1x1x128x64.Idx) :
    blkV X n i = X (ix4 (n0 := 2) (n1 := 128) (n2 := 16) (n3 := 64) ⟨n % 32 / 16, by omega⟩ (i 2) ⟨n % 16, by omega⟩ (i 3)) := by
  have h0 : (i 0).val < 1 := (i 0).isLt
  have h1 : (i 1).val < 1 := (i 1).isLt
  unfold blkV
  generalize hy : (M2.view.readAt (Elt Ideal) (srcR n).toLoadRect X : Vec Ideal S1x128x1x64 .bf16) = y
  rw [shapeCast_apply _ shapeCasts_S128x64_S1x1x128x64 i (ix2 (n0 := 128) (n1 := 64) (i 2) (i 3)) (by
      rewrite [Shape.rowMajor_val_two, Shape.rowMajor_val_four]
      show (i 2).val * 64 + (i 3).val = (((i 0).val * 1 + (i 1).val) * 128 + (i 2).val) * 64 + (i 3).val
      omega),
    shapeCast_apply y shapeCasts_S1x128x1x64_S128x64 _ (ix4 (n0 := 1) (n1 := 128) (n2 := 1) (n3 := 64) 0 (i 2) 0 (i 3)) (by
      rewrite [Shape.rowMajor_val_two, Shape.rowMajor_val_four]
      show ((0 * 128 + (i 2).val) * 1 + 0) * 64 + (i 3).val = (i 2).val * 64 + (i 3).val
      omega)]
  subst hy
  refine congrArg X (funext fun a => Fin.ext ?_)
  match a with
  | ⟨0, _⟩ => show n % 32 / 16 + 1 * 0 = n % 32 / 16; omega
  | ⟨1, _⟩ => show 0 + 1 * (i 2).val = (i 2).val; omega
  | ⟨2, _⟩ => show n % 16 + 1 * 0 = n % 16; omega
  | ⟨3, _⟩ => show 0 + 1 * (i 3).val = (i 3).val; omega

/-- One store of the fill writes one block of the buffer and leaves the rest. -/
theorem bd_upd (X : Vec Ideal S2x128x16x64 .bf16) (n : ℕ) :
    bd X (n + 1) = updateSlice (bd X n) (blkV X n) ![n % 32 / 16, n / 4 % 4, n % 4 * 128, n % 4 * 64] ⟨rfl, blk_inb n⟩ := by
  rw [bd_succ]
  generalize bd X n = B
  generalize blkV X n = w
  exact View.write_whole_slice_unit cc0_scratch4 _ _ (blk_inb n) B w

/-- The head a row of panel `g` belongs to. -/
abbrev headOf (g : Fin 4) (r : Fin 512) : Fin 16 := ⟨g.val * 4 + r.val / 128, by have := g.isLt; have := r.isLt; omega⟩

/-- The buffer once its first `n` blocks are written: the blocks so far, zero elsewhere. -/
theorem bd_apply (X : Vec Ideal S2x128x16x64 .bf16) (n : ℕ) (hn : n ≤ 32) (b : Fin 2) (g : Fin 4) (r : Fin 512) (cc : Fin 256) :
    bd X n (ix4 b g r cc) = if r.val / 128 = cc.val / 64 ∧ b.val * 16 + g.val * 4 + r.val / 128 < n then
      X (ix4 (n0 := 2) (n1 := 128) (n2 := 16) (n3 := 64) b ⟨r.val % 128, by omega⟩ (headOf g r) ⟨cc.val % 64, by omega⟩) else 0 := by
  have hb := b.isLt; have hg := g.isLt; have hr := r.isLt; have hc := cc.isLt
  induction n with
  | zero =>
    rw [if_neg (by omega)]
    show shapeCast S2x4x512x256 (broadcast S2x4x512x256 (Scalar.ofBits (F := Ideal) .bf16 0x0000#16)) shapeCasts_S2x4x512x256_S2x4x512x256 (ix4 b g r cc) = 0
    rw [shapeCast_self]
    show Ideal.ofBits .bf16 0x0000#16 = 0
    simp [Ideal.ofBits, Ideal.ieee]
  | succ n ih =>
    rw [bd_upd]
    unfold updateSlice
    by_cases hin : b.val = n / 16 ∧ g.val = n / 4 % 4 ∧ r.val / 128 = n % 4 ∧ cc.val / 64 = n % 4
    · obtain ⟨e0, e1, e2, e3⟩ := hin
      rw [dif_pos (by
        intro a
        match a with
        | ⟨0, _⟩ => show n % 32 / 16 ≤ b.val ∧ b.val < n % 32 / 16 + 1; omega
        | ⟨1, _⟩ => show n / 4 % 4 ≤ g.val ∧ g.val < n / 4 % 4 + 1; omega
        | ⟨2, _⟩ => show n % 4 * 128 ≤ r.val ∧ r.val < n % 4 * 128 + 128; omega
        | ⟨3, _⟩ => show n % 4 * 64 ≤ cc.val ∧ cc.val < n % 4 * 64 + 64; omega), if_pos (by omega), blkV_apply]
      refine congrArg X (funext fun a => Fin.ext ?_)
      match a with
      | ⟨0, _⟩ => show n % 32 / 16 = b.val; omega
      | ⟨1, _⟩ => show r.val - n % 4 * 128 = r.val % 128; omega
      | ⟨2, _⟩ => show n % 16 = g.val * 4 + r.val / 128; omega
      | ⟨3, _⟩ => show cc.val - n % 4 * 64 = cc.val % 64; omega
    · rw [dif_neg (by
        intro h
        have h0 : n % 32 / 16 ≤ b.val ∧ b.val < n % 32 / 16 + 1 := h (0 : Fin 4)
        have h1 : n / 4 % 4 ≤ g.val ∧ g.val < n / 4 % 4 + 1 := h (1 : Fin 4)
        have h2 : n % 4 * 128 ≤ r.val ∧ r.val < n % 4 * 128 + 128 := h (2 : Fin 4)
        have h3 : n % 4 * 64 ≤ cc.val ∧ cc.val < n % 4 * 64 + 64 := h (3 : Fin 4)
        exact hin (by omega)), ih (by omega)]
      refine if_congr ?_ rfl rfl
      omega

/-- A loaded panel at an index. -/
theorem bdr_apply (X : Vec Ideal S2x128x16x64 .bf16) (off : Fin 4 → ℕ) (inb : ∀ a, off a + S1x1x512x256.size a ≤ S2x4x512x256.size a)
    (b : Fin 2) (g : Fin 4) (ho : off = ![b.val, g.val, 0, 0]) (r : Fin 512) (cc : Fin 256) :
    bdr X off inb (ix4 (n0 := 1) (n1 := 1) (n2 := 512) (n3 := 256) 0 0 r cc) = if r.val / 128 = cc.val / 64 then
      X (ix4 (n0 := 2) (n1 := 128) (n2 := 16) (n3 := 64) b ⟨r.val % 128, by omega⟩ (headOf g r) ⟨cc.val % 64, by omega⟩) else 0 := by
  subst ho
  have hb := b.isLt; have hg := g.isLt; have hr := r.isLt; have hc := cc.isLt
  have e : bdr X ![b.val, g.val, 0, 0] inb (ix4 (n0 := 1) (n1 := 1) (n2 := 512) (n3 := 256) 0 0 r cc) = bd X 32 (ix4 b g r cc) := by
    unfold bdr
    generalize bd X 32 = B
    refine congrArg B (funext fun a => Fin.ext ?_)
    match a with
    | ⟨0, _⟩ => show b.val + 1 * 0 = b.val; omega
    | ⟨1, _⟩ => show g.val + 1 * 0 = g.val; omega
    | ⟨2, _⟩ => show 0 + 1 * r.val = r.val; omega
    | ⟨3, _⟩ => show 0 + 1 * cc.val = cc.val; omega
  rw [e, bd_apply X 32 le_rfl]
  refine if_congr ?_ rfl rfl
  omega

end Cert.KernelIdealRun

end
-- ==== Proof.Group.lean ====
/-
# One group of heads, read at an index

The body runs the same steps for each of the four groups of heads: the projection of the input, the scores against a
panel of keys, the rows' shares, the sums against a panel of values. Here those steps are one function, and its result is read
at an index: the panels are zero off their diagonal blocks, so each sum over a panel's width is one head's sum.
-/
module

public import proofs.«01_k».proof.Proof.Blocks

@[expose] public section

set_option synthInstance.maxSize 4096

noncomputable section

namespace Cert.KernelIdealRun

open Cert.KernelIdeal Cert.KernelIdeal.Gen
open Idealize.ShloMosaic Idealize.ShloMosaic.ValueIdx
open scoped BigOperators

/-- Lane `d` of head `hh` of a group. -/
abbrev hd (hh : Fin 4) (d : Fin 64) : Fin 256 := ⟨hh.val * 64 + d.val, by have := hh.isLt; have := d.isLt; omega⟩
/-- Key `t` under head `hh` of a group. -/
abbrev kt (hh : Fin 4) (t : Fin 128) : Fin 512 := ⟨hh.val * 128 + t.val, by have := hh.isLt; have := t.isLt; omega⟩
/-- Head `hh` of group `g`. -/
abbrev gh (g : Fin 4) (hh : Fin 4) : Fin 16 := ⟨g.val * 4 + hh.val, by have := hh.isLt; have := g.isLt; omega⟩
/-- Row `r` of batch `b`. -/
abbrev brow (b : Fin 2) (r : Fin 128) : Fin 256 := ⟨b.val * 128 + r.val, by have := b.isLt; have := r.isLt; omega⟩

/-- A sum over `m * n` positions is the sum over `m` blocks of `n`. -/
theorem sum_split {M : Type*} [AddCommMonoid M] (m n N : ℕ) (hN : m * n = N) (hb : ∀ (a : Fin m) (b : Fin n), a.val * n + b.val < N) (f : Fin N → M) :
    ∑ k, f k = ∑ a : Fin m, ∑ b : Fin n, f ⟨a.val * n + b.val, hb a b⟩ := by
  subst hN
  rw [← Equiv.sum_comp finProdFinEquiv f, Fintype.sum_prod_type]
  refine Finset.sum_congr rfl fun a _ => Finset.sum_congr rfl fun b _ => congrArg f (Fin.ext ?_)
  show b.val + n * a.val = a.val * n + b.val
  rw [mul_comm, add_comm]

theorem sum_hd {M : Type*} [AddCommMonoid M] (f : Fin 256 → M) : ∑ k, f k = ∑ hh : Fin 4, ∑ d : Fin 64, f (hd hh d) := sum_split 4 64 256 rfl _ f
theorem sum_kt {M : Type*} [AddCommMonoid M] (f : Fin 512 → M) : ∑ k, f k = ∑ hh : Fin 4, ∑ t : Fin 128, f (kt hh t) := sum_split 4 128 512 rfl _ f

section Steps

/-- The scores' exponentials. -/
def expo (bias : FVec Ideal S128x512 .f32) (q : FVec Ideal S128x256 .bf16) (K : Vec Ideal S1x1x512x256 .bf16) : FVec Ideal S128x512 .f32 :=
  exp (addf (matmul dot_S128x256_S512x256_S128x512_1_1_0_0_n_n none q (shapeCast S512x256 K shapeCasts_S1x1x512x256_S512x256 : FVec Ideal S512x256 .bf16)
    (constant (F := Ideal) S128x512 .f32 0x00000000#32)) bias)
/-- Each exponential over its row's sum, a row being one head's. -/
def soft3 (e : FVec Ideal S128x4x128 .f32) : FVec Ideal S128x4x128 .f32 :=
  divf e (broadcastTo S128x4x128 (shapeCast S128x4x1 (multiReduction .add [2] S128x4 e 0x00000000#32 reduces_S128x4x128_S128x4 (.inl rfl) rfl)
    shapeCasts_S128x4_S128x4x1 : FVec Ideal S128x4x1 .f32) broadcasts_S128x4x1_S128x4x128)
def soft (e : FVec Ideal S128x512 .f32) : FVec Ideal S128x512 .f32 :=
  shapeCast S128x512 (soft3 (shapeCast S128x4x128 e shapeCasts_S128x512_S128x4x128)) shapeCasts_S128x4x128_S128x512
/-- The weighted values. -/
def ctx (p : FVec Ideal S128x512 .f32) (V : Vec Ideal S1x1x512x256 .bf16) : FVec Ideal S128x256 .bf16 :=
  truncf .bf16 (matmul dot_S128x512_S512x256_S128x256_1_0_0_1_n_n none (truncf .bf16 p bitsLt_bf16_f32 : FVec Ideal S128x512 .bf16)
    (shapeCast S512x256 V shapeCasts_S1x1x512x256_S512x256 : FVec Ideal S512x256 .bf16) (constant (F := Ideal) S128x256 .f32 0x00000000#32)) bitsLt_bf16_f32
/-- The projection of the input. -/
def proj (x2 : FVec Ideal S256x512 .bf16) (wq : FVec Ideal S512x256 .bf16) : FVec Ideal S256x256 .bf16 :=
  truncf .bf16 (matmul dot_S256x512_S512x256_S256x256_1_0_0_1_n_n none x2 wq (constant (F := Ideal) S256x256 .f32 0x00000000#32)) bitsLt_bf16_f32
/-- One batch's rows of it. -/
def top (q : FVec Ideal S256x256 .bf16) : FVec Ideal S128x256 .bf16 := extractStridedSlice S128x256 ![0, 0] q slices_S256x256_o0_0_S128x256
def bot (q : FVec Ideal S256x256 .bf16) : FVec Ideal S128x256 .bf16 := extractStridedSlice S128x256 ![128, 0] q slices_S256x256_o128_0_S128x256
/-- A group's weighted values, for both batches. -/
def grp (x2 : FVec Ideal S256x512 .bf16) (bias : FVec Ideal S128x512 .f32) (wq : FVec Ideal S512x256 .bf16) (K0 V0 K1 V1 : Vec Ideal S1x1x512x256 .bf16) :
    FVec Ideal S256x256 .bf16 :=
  concatenate S256x256 0 [⟨S128x256, ctx (soft (expo bias (top (proj x2 wq)) K0)) V0⟩, ⟨S128x256, ctx (soft (expo bias (bot (proj x2 wq)) K1)) V1⟩]
    concatenates_S128x256_S128x256_S256x256_d0
/-- The running result with one group added. -/
def addOut (acc : FVec Ideal S256x512 .f32) (g : FVec Ideal S256x256 .bf16) (wo : FVec Ideal S256x512 .bf16) : FVec Ideal S256x512 .f32 :=
  addf acc (matmul dot_S256x256_S256x512_S256x512_1_0_0_1_n_n none g wo (constant (F := Ideal) S256x512 .f32 0x00000000#32))

end Steps

/-! ## The steps at an index -/

theorem panel_cast (K : Vec Ideal S1x1x512x256 .bf16) (j : Fin 512) (d : Fin 256) :
    (shapeCast S512x256 K shapeCasts_S1x1x512x256_S512x256 : FVec Ideal S512x256 .bf16) (ix2 j d) = K (ix4 (n0 := 1) (n1 := 1) (n2 := 512) (n3 := 256) 0 0 j d) := by
  refine shapeCast_apply K shapeCasts_S1x1x512x256_S512x256 _ _ ?_
  rewrite [Shape.rowMajor_val_two, Shape.rowMajor_val_four]
  show ((0 * 1 + 0) * 512 + j.val) * 256 + d.val = j.val * 256 + d.val
  omega

theorem proj_apply (x2 : FVec Ideal S256x512 .bf16) (wq : FVec Ideal S512x256 .bf16) (r c : Fin 256) :
    proj x2 wq (ix2 r c) = ∑ m : Fin 512, x2 (ix2 r m) * wq (ix2 m c) := mq_apply x2 wq (ix2 r c)

theorem top_apply (q : FVec Ideal S256x256 .bf16) (r : Fin 128) (c : Fin 256) : top q (ix2 r c) = q (ix2 (brow 0 r) c) :=
  extractStridedSlice_apply ![0, 0] q slices_S256x256_o0_0_S128x256 _ _ fun a => match a with
    | ⟨0, _⟩ => by show 0 * 128 + r.val = 0 + r.val; omega
    | ⟨1, _⟩ => by show c.val = 0 + c.val; omega
theorem bot_apply (q : FVec Ideal S256x256 .bf16) (r : Fin 128) (c : Fin 256) : bot q (ix2 r c) = q (ix2 (brow 1 r) c) :=
  extractStridedSlice_apply ![128, 0] q slices_S256x256_o128_0_S128x256 _ _ fun a => match a with
    | ⟨0, _⟩ => by show 1 * 128 + r.val = 128 + r.val; omega
    | ⟨1, _⟩ => by show c.val = 0 + c.val; omega

/-- A panel at a row of head `hh` and a lane of head `hh'`: zero unless the heads are one. -/
theorem panel_at (X : Vec Ideal S2x128x16x64 .bf16) (off : Fin 4 → ℕ) (inb : ∀ a, off a + S1x1x512x256.size a ≤ S2x4x512x256.size a)
    (b : Fin 2) (g : Fin 4) (ho : off = ![b.val, g.val, 0, 0]) (hh hh' : Fin 4) (t : Fin 128) (d : Fin 64) :
    bdr X off inb (ix4 (n0 := 1) (n1 := 1) (n2 := 512) (n3 := 256) 0 0 (kt hh t) (hd hh' d)) = if hh = hh' then
      X (ix4 (n0 := 2) (n1 := 128) (n2 := 16) (n3 := 64) b t (gh g hh) d) else 0 := by
  have h0 := hh.isLt; have h1 := hh'.isLt; have h2 := t.isLt; have h3 := d.isLt
  rw [bdr_apply X off inb b g ho]
  by_cases h : hh = hh'
  · subst h
    rw [if_pos rfl, if_pos (by show (hh.val * 128 + t.val) / 128 = (hh.val * 64 + d.val) / 64; omega)]
    refine congrArg X (funext fun a => Fin.ext ?_)
    match a with
    | ⟨0, _⟩ => rfl
    | ⟨1, _⟩ => show (hh.val * 128 + t.val) % 128 = t.val; omega
    | ⟨2, _⟩ => show g.val * 4 + (hh.val * 128 + t.val) / 128 = g.val * 4 + hh.val; omega
    | ⟨3, _⟩ => show (hh.val * 64 + d.val) % 64 = d.val; omega
  · rw [if_neg h, if_neg (by
      show ¬ (hh.val * 128 + t.val) / 128 = (hh'.val * 64 + d.val) / 64
      intro e; exact h (Fin.ext (by omega)))]

/-- A score's exponential: one head's product. -/
theorem expo_apply (bias : FVec Ideal S128x512 .f32) (q : FVec Ideal S128x256 .bf16)
    (X : Vec Ideal S2x128x16x64 .bf16) (off : Fin 4 → ℕ) (inb : ∀ a, off a + S1x1x512x256.size a ≤ S2x4x512x256.size a)
    (b : Fin 2) (g : Fin 4) (ho : off = ![b.val, g.val, 0, 0]) (r : Fin 128) (hh : Fin 4) (t : Fin 128) :
    expo bias q (bdr X off inb) (ix2 r (kt hh t))
      = Ideal.exp ((∑ d : Fin 64, q (ix2 r (hd hh d)) * X (ix4 (n0 := 2) (n1 := 128) (n2 := 16) (n3 := 64) b t (gh g hh) d)) + bias (ix2 r (kt hh t))) := by
  refine congrArg (fun z : EReal => Ideal.exp (z + bias (ix2 r (kt hh t)))) ?_
  refine (ms_apply q _ (ix2 r (kt hh t))).trans ?_
  rw [sum_hd]
  rw [Finset.sum_eq_single hh (fun h' _ hne => Finset.sum_eq_zero fun d _ => ?_) (fun h => absurd (Finset.mem_univ _) h)]
  · refine Finset.sum_congr rfl fun d _ => ?_
    refine congrArg (fun z : EReal => q (ix2 r (hd hh d)) * z) ?_
    refine (panel_cast (bdr X off inb) (kt hh t) (hd hh d)).trans ?_
    rw [panel_at X off inb b g ho, if_pos rfl]
  · refine Eq.trans (congrArg (fun z : EReal => q (ix2 r (hd h' d)) * z) ?_) (mul_zero _)
    refine (panel_cast (bdr X off inb) (kt hh t) (hd h' d)).trans ?_
    rw [panel_at X off inb b g ho, if_neg (Ne.symm hne)]

theorem soft3_apply (e : FVec Ideal S128x4x128 .f32) (r : Fin 128) (hh : Fin 4) (t : Fin 128) :
    soft3 e (ix3 r hh t) = Ideal.div (e (ix3 r hh t)) (∑ t' : Fin 128, e (ix3 r hh t')) := by
  refine congrArg (Ideal.div (e (ix3 r hh t))) ?_
  refine (broadcastTo_apply _ broadcasts_S128x4x1_S128x4x128 (ix3 r hh t) (ix3 (n0 := 128) (n1 := 4) (n2 := 1) r hh 0) (fun a => match a with
    | ⟨0, _⟩ => by show r.val = if (128 : ℕ) = 1 then 0 else r.val; rw [if_neg (by decide)]
    | ⟨1, _⟩ => by show hh.val = if (4 : ℕ) = 1 then 0 else hh.val; rw [if_neg (by decide)]
    | ⟨2, _⟩ => by show 0 = if (1 : ℕ) = 1 then 0 else t.val; rw [if_pos rfl])).trans ?_
  refine (shapeCast_apply _ shapeCasts_S128x4_S128x4x1 _ (ix2 (n0 := 128) (n1 := 4) r hh) (by
    rewrite [Shape.rowMajor_val_two, Shape.rowMajor_val_three]
    show r.val * 4 + hh.val = (r.val * 4 + hh.val) * 1 + 0
    omega)).trans ?_
  refine (Ideal.multiReduction_add_single e _ reduces_S128x4x128_S128x4 (.inl rfl) rfl (ix2 r hh)).trans ?_
  refine Finset.sum_congr rfl fun k _ => congrArg e (funext fun a => Fin.ext ?_)
  match a with
  | ⟨0, _⟩ => rfl
  | ⟨1, _⟩ => rfl
  | ⟨2, _⟩ => rfl

theorem cast3_apply (e : FVec Ideal S128x512 .f32) (r : Fin 128) (hh : Fin 4) (t : Fin 128) :
    (shapeCast S128x4x128 e shapeCasts_S128x512_S128x4x128 : FVec Ideal S128x4x128 .f32) (ix3 r hh t) = e (ix2 r (kt hh t)) :=
  shapeCast_apply e shapeCasts_S128x512_S128x4x128 _ _ (by
    rewrite [Shape.rowMajor_val_two, Shape.rowMajor_val_three]
    show r.val * 512 + (hh.val * 128 + t.val) = (r.val * 4 + hh.val) * 128 + t.val
    omega)

/-- A share: an exponential over its head's row sum. -/
theorem soft_apply (e : FVec Ideal S128x512 .f32) (r : Fin 128) (hh : Fin 4) (t : Fin 128) :
    soft e (ix2 r (kt hh t)) = Ideal.div (e (ix2 r (kt hh t))) (∑ t' : Fin 128, e (ix2 r (kt hh t'))) := by
  refine (shapeCast_apply _ shapeCasts_S128x4x128_S128x512 _ (ix3 r hh t) (by
    rewrite [Shape.rowMajor_val_two, Shape.rowMajor_val_three]
    show (r.val * 4 + hh.val) * 128 + t.val = r.val * 512 + (hh.val * 128 + t.val)
    omega)).trans ?_
  rw [soft3_apply, cast3_apply]
  simp only [cast3_apply]

/-- The weighted values: one head's sum. -/
theorem ctx_apply (p : FVec Ideal S128x512 .f32)
    (X : Vec Ideal S2x128x16x64 .bf16) (off : Fin 4 → ℕ) (inb : ∀ a, off a + S1x1x512x256.size a ≤ S2x4x512x256.size a)
    (b : Fin 2) (g : Fin 4) (ho : off = ![b.val, g.val, 0, 0]) (r : Fin 128) (hh : Fin 4) (d : Fin 64) :
    ctx p (bdr X off inb) (ix2 r (hd hh d)) = ∑ t : Fin 128, p (ix2 r (kt hh t)) * X (ix4 (n0 := 2) (n1 := 128) (n2 := 16) (n3 := 64) b t (gh g hh) d) := by
  refine (mc_apply (truncf .bf16 p bitsLt_bf16_f32) _ (ix2 r (hd hh d))).trans ?_
  rw [sum_kt]
  rw [Finset.sum_eq_single hh (fun h' _ hne => Finset.sum_eq_zero fun t _ => ?_) (fun h => absurd (Finset.mem_univ _) h)]
  · refine Finset.sum_congr rfl fun t _ => ?_
    refine congrArg (fun z : EReal => p (ix2 r (kt hh t)) * z) ?_
    refine (panel_cast (bdr X off inb) (kt hh t) (hd hh d)).trans ?_
    rw [panel_at X off inb b g ho, if_pos rfl]
  · refine Eq.trans (congrArg (fun z : EReal => p (ix2 r (kt h' t)) * z) ?_) (mul_zero _)
    refine (panel_cast (bdr X off inb) (kt h' t) (hd hh d)).trans ?_
    rw [panel_at X off inb b g ho, if_neg hne]

/-- One head's weighted values at one row, from the scaled input, the mask, and the projections. -/
def ctxAt (x2 : FVec Ideal S256x512 .bf16) (bias : FVec Ideal S128x512 .f32) (wq : FVec Ideal S512x256 .bf16) (Kx Vx : Vec Ideal S2x128x16x64 .bf16)
    (g : Fin 4) (b : Fin 2) (r : Fin 128) (hh : Fin 4) (d : Fin 64) : EReal :=
  let ex : Fin 128 → EReal := fun t => Ideal.exp ((∑ d' : Fin 64, (∑ m : Fin 512, x2 (ix2 (brow b r) m) * wq (ix2 m (hd hh d')))
    * Kx (ix4 (n0 := 2) (n1 := 128) (n2 := 16) (n3 := 64) b t (gh g hh) d')) + bias (ix2 r (kt hh t)))
  ∑ t : Fin 128, Ideal.div (ex t) (∑ t' : Fin 128, ex t') * Vx (ix4 (n0 := 2) (n1 := 128) (n2 := 16) (n3 := 64) b t (gh g hh) d)

section Whole
variable (x2 : FVec Ideal S256x512 .bf16) (bias : FVec Ideal S128x512 .f32) (wq : FVec Ideal S512x256 .bf16) (Kx Vx : Vec Ideal S2x128x16x64 .bf16)
  (g : Fin 4) (off0 off1 : Fin 4 → ℕ) (inb0 : ∀ a, off0 a + S1x1x512x256.size a ≤ S2x4x512x256.size a) (inb1 : ∀ a, off1 a + S1x1x512x256.size a ≤ S2x4x512x256.size a)
  (h0 : off0 = ![0, g.val, 0, 0]) (h1 : off1 = ![1, g.val, 0, 0])
include h0 h1

/-- A group's result at an index. -/
theorem grp_apply (b : Fin 2) (r : Fin 128) (hh : Fin 4) (d : Fin 64) :
    grp x2 bias wq (bdr Kx off0 inb0) (bdr Vx off0 inb0) (bdr Kx off1 inb1) (bdr Vx off1 inb1) (ix2 (brow b r) (hd hh d))
      = ctxAt x2 bias wq Kx Vx g b r hh d := by
  have hr := r.isLt
  match b with
  | ⟨0, _⟩ =>
    refine (concatenate_pair_apply_left (s₁ := S128x256) (s₂ := S128x256) (t := S256x256) 0 _ _ concatenates_S128x256_S128x256_S256x256_d0 _ rfl (ix2 r (hd hh d)) (fun a => match a with
      | ⟨0, _⟩ => by show r.val = 0 * 128 + r.val; omega
      | ⟨1, _⟩ => rfl)).trans ?_
    rw [ctx_apply _ Vx off0 inb0 0 g h0]
    simp only [soft_apply, expo_apply bias _ Kx off0 inb0 0 g h0, top_apply, proj_apply]
    rfl
  | ⟨1, _⟩ =>
    refine (concatenate_pair_apply_right (s₁ := S128x256) (s₂ := S128x256) (t := S256x256) 0 _ _ concatenates_S128x256_S128x256_S256x256_d0 _ rfl rfl (ix2 r (hd hh d)) (fun a ha => match a with
      | ⟨0, _⟩ => absurd rfl ha
      | ⟨1, _⟩ => rfl) (by show r.val + 128 = 1 * 128 + r.val; omega)).trans ?_
    rw [ctx_apply _ Vx off1 inb1 1 g h1]
    simp only [soft_apply, expo_apply bias _ Kx off1 inb1 1 g h1, bot_apply, proj_apply]
    rfl

/-- The running result at an index, with one group added. -/
theorem addOut_apply (acc : FVec Ideal S256x512 .f32) (wo : FVec Ideal S256x512 .bf16) (b : Fin 2) (r : Fin 128) (j : Fin 512) :
    addOut acc (grp x2 bias wq (bdr Kx off0 inb0) (bdr Vx off0 inb0) (bdr Kx off1 inb1) (bdr Vx off1 inb1)) wo (ix2 (brow b r) j)
      = acc (ix2 (brow b r) j) + ∑ hh : Fin 4, ∑ d : Fin 64, ctxAt x2 bias wq Kx Vx g b r hh d * wo (ix2 (hd hh d) j) := by
  refine congrArg (fun z : EReal => acc (ix2 (brow b r) j) + z) ?_
  refine (mo_apply _ wo (ix2 (brow b r) j)).trans ?_
  rw [sum_hd]
  refine Finset.sum_congr rfl fun hh _ => Finset.sum_congr rfl fun d _ => congrArg (fun z : EReal => z * wo (ix2 (hd hh d) j)) ?_
  exact grp_apply x2 bias wq Kx Vx g off0 off1 inb0 inb1 h0 h1 b r hh d

end Whole

end Cert.KernelIdealRun

end
-- ==== Proof.Bias.lean ====
/-
# The mask, read at an index

The word tests of the body, at one query and one key: the score keeps its value when the key's block is the query's
own, or the first, or when the two block numbers sum to a multiple of three, and is moved to minus infinity otherwise.
-/
module

public import proofs.«01_k».proof.Proof.Group
public import Idealize.ShloMosaic.PureOps.IdealRules

@[expose] public section

set_option synthInstance.maxSize 4096

noncomputable section

namespace Cert.KernelIdealRun

open Cert.KernelIdeal Cert.KernelIdeal.Gen
open Idealize.ShloMosaic Idealize.ShloMosaic.ValueIdx
open scoped BigOperators

/-- A query of block `a` keeps its scores against the keys of block `b`. -/
abbrev keeps (a b : ℕ) : Prop := a = b ∨ b = 0 ∨ (a + b) % 3 = 0

/-- The query's block, as the body computes it. -/
theorem p436_col (c : Dev nD) (r : Fin 128) (j : Fin 512) : p436 c (ix2 r j) = p436 c (ix2 r (0 : Fin 512)) := rfl
theorem p436_row : ∀ (c : Fin 4) (r : Fin 128), p436 (c : Dev nD) (ix2 r (0 : Fin 512)) = BitVec.ofNat 32 (2 * c.val + r.val / 64) := by decide +kernel
/-- The key's block. -/
theorem p462_row (r : Fin 128) (j : Fin 512) : p462 (ix2 r j) = p462 (ix2 (0 : Fin 128) j) := rfl
theorem p462_col : ∀ (hh : Fin 4) (t : Fin 128), p462 (ix2 (0 : Fin 128) (kt hh t)) = BitVec.ofNat 32 (t.val / 64) := by decide +kernel

/-- The test on two block numbers. -/
def keepBit (a b : BitVec 32) : BitVec 1 :=
  IntOp.ori (IntOp.ori (IntOp.cmpi .eq a b) (IntOp.cmpi .eq b 0#32)) (IntOp.cmpi .eq (IntOp.remsi .vector (IntOp.addi a b) 3#32) 0#32)
theorem keepBit_eq : ∀ (a : Fin 8) (b : Fin 2), keepBit (BitVec.ofNat 32 a.val) (BitVec.ofNat 32 b.val) = if keeps a.val b.val then 1#1 else 0#1 := by decide +kernel

theorem p475_bit (c : Dev nD) (i : S128x512.Idx) :
    p475 (F := Ideal) c i = Scalar.select (keepBit (p436 c i) (p462 i)) (Ideal.ofBits .f32 0x00000000#32) (Named.named (F := Ideal) κ "mask" (φ := .f32) 0xCE6E6B28#32) := rfl

/-- What the body adds to a score. -/
theorem p475_apply (c : Dev nD) (r : Fin 128) (hh : Fin 4) (t : Fin 128) :
    p475 (F := Ideal) c (ix2 r (kt hh t)) = if keeps (2 * c.val + r.val / 64) (t.val / 64) then (0 : EReal) else ⊥ := by
  have hc : c.val < 4 := c.isLt
  have hr := r.isLt; have ht := t.isLt
  rw [p475_bit, p436_col, p462_row, p462_col, p436_row c r]
  rw [keepBit_eq ⟨2 * c.val + r.val / 64, by omega⟩ ⟨t.val / 64, by omega⟩,
    show Named.named (F := Ideal) κ "mask" (φ := .f32) 0xCE6E6B28#32 = (⊥ : EReal) from IdealRules.named_const.ideal_named_scalar _ _ _ _ rfl,
    Ideal.ofBits_zero_f32]
  by_cases h : keeps (2 * c.val + r.val / 64) (t.val / 64)
  · rw [if_pos h, if_pos h]; rfl
  · rw [if_neg h, if_neg h]; rfl

end Cert.KernelIdealRun

end
-- ==== Proof.OutVal.lean ====
/-
# The body's result, read at an index

The block the body stores, at a batch, a row and a lane: the sum over the four groups of heads of that group's weighted
values against the group's output projection. The device adds its own group first, then its left neighbour's, its right
neighbour's and that of the device across; together those are the four groups, once each.
-/
module

public import proofs.«01_k».proof.Proof.Bias

@[expose] public section

set_option synthInstance.maxSize 4096

noncomputable section

namespace Cert.KernelIdealRun

open Cert.KernelIdeal Cert.KernelIdeal.Gen
open Idealize.ShloMosaic Idealize.ShloMosaic.ValueIdx
open scoped BigOperators

theorem off6_eq : ∀ c : Dev nD, k0_off6 c = ![(0 : Fin 2).val, c.val, 0, 0] := by decide +kernel
theorem off7_eq : ∀ c : Dev nD, k0_off7 c = ![(1 : Fin 2).val, c.val, 0, 0] := by decide +kernel
theorem off10_eq : ∀ c : Dev nD, k0_off10 c = ![(0 : Fin 2).val, (lf c).val, 0, 0] := by decide +kernel
theorem off11_eq : ∀ c : Dev nD, k0_off11 c = ![(1 : Fin 2).val, (lf c).val, 0, 0] := by decide +kernel
theorem off16_rt : ∀ c : Dev nD, k0_off16 c 1#32 = ![(0 : Fin 2).val, (rt c).val, 0, 0] := by decide +kernel
theorem off17_rt : ∀ c : Dev nD, k0_off17 c 1#32 = ![(1 : Fin 2).val, (rt c).val, 0, 0] := by decide +kernel
theorem off16_op : ∀ c : Dev nD, k0_off16 c 2#32 = ![(0 : Fin 2).val, (op c).val, 0, 0] := by decide +kernel
theorem off17_op : ∀ c : Dev nD, k0_off17 c 2#32 = ![(1 : Fin 2).val, (op c).val, 0, 0] := by decide +kernel

/-- The four groups in the order the device adds them are the four groups. -/
theorem four_groups (c : Fin 4) (f : Fin 4 → EReal) : (((0 + f c) + f (lf c)) + f (rt c)) + f (op c) = ∑ g : Fin 4, f g := by
  have h : ∀ c : Fin 4, (c = 0 ∧ @Eq (Fin 4) (lf c) 3 ∧ @Eq (Fin 4) (rt c) 1 ∧ @Eq (Fin 4) (op c) 2) ∨ (c = 1 ∧ @Eq (Fin 4) (lf c) 0 ∧ @Eq (Fin 4) (rt c) 2 ∧ @Eq (Fin 4) (op c) 3)
      ∨ (c = 2 ∧ @Eq (Fin 4) (lf c) 1 ∧ @Eq (Fin 4) (rt c) 3 ∧ @Eq (Fin 4) (op c) 0) ∨ (c = 3 ∧ @Eq (Fin 4) (lf c) 2 ∧ @Eq (Fin 4) (rt c) 0 ∧ @Eq (Fin 4) (op c) 1) := by decide
  rw [Fin.sum_univ_four, zero_add]
  rcases h c with ⟨h0, h1, h2, h3⟩ | ⟨h0, h1, h2, h3⟩ | ⟨h0, h1, h2, h3⟩ | ⟨h0, h1, h2, h3⟩ <;> rw [h1, h2, h3, h0] <;> ac_rfl

section Out
variable (c : Dev nD) (I : Ins Ideal)

/-- A group as the body forms it. -/
abbrev grpOf (g : Dev nD) (w : FVec Ideal S512x256 .bf16) (off0 off1 : Fin 4 → ℕ) (inb0 : ∀ a, off0 a + S1x1x512x256.size a ≤ S2x4x512x256.size a)
    (inb1 : ∀ a, off1 a + S1x1x512x256.size a ≤ S2x4x512x256.size a) : FVec Ideal S256x256 .bf16 :=
  grp (o407 I) (p475 c) w (bdr I.k off0 inb0) (bdr I.v off0 inb0) (bdr I.k off1 inb1) (bdr I.v off1 inb1)

theorem o521_eq : o521 c I = addOut k0_pay88 (grpOf c I c (I.q c) (k0_off6 c) (k0_off7 c) (k0_off6_inb c) (k0_off7_inb c)) (I.o c) := rfl
theorem o586_eq : o586 c I = addOut (o521 c I) (grpOf c I (lf c) (shapeCast S512x256 (sQ (I.q (lf c))) shapeCasts_S1x512x256_S512x256) (k0_off10 c) (k0_off11 c) (k0_off10_inb c) (k0_off11_inb c))
    (shapeCast S256x512 (sO (I.o (lf c))) shapeCasts_S1x256x512_S256x512) := rfl
theorem o651_eq : o651 c I = addOut (o586 c I) (grpOf c I (rt c) (shapeCast S512x256 (sQ (I.q (rt c))) shapeCasts_S1x512x256_S512x256) (k0_off16 c 1#32) (k0_off17 c 1#32) (k0_off16_inb c 0) (k0_off17_inb c 0))
    (shapeCast S256x512 (sO (I.o (rt c))) shapeCasts_S1x256x512_S256x512) := rfl
theorem o716_eq : o716 c I = addOut (o651 c I) (grpOf c I (op c) (shapeCast S512x256 (sQ (I.q (op c))) shapeCasts_S1x512x256_S512x256) (k0_off16 c 2#32) (k0_off17 c 2#32) (k0_off16_inb c 1) (k0_off17_inb c 1))
    (shapeCast S256x512 (sO (I.o (op c))) shapeCasts_S1x256x512_S256x512) := rfl

theorem sQ_back (q : Vec Ideal S512x256 .bf16) : (shapeCast S512x256 (sQ q) shapeCasts_S1x512x256_S512x256 : FVec Ideal S512x256 .bf16) = q := by
  unfold sQ
  rw [shapeCast_shapeCast q shapeCasts_Q1 shapeCasts_S1x512x256_S512x256]
theorem sO_back (q : Vec Ideal S256x512 .bf16) : (shapeCast S256x512 (sO q) shapeCasts_S1x256x512_S256x512 : FVec Ideal S256x512 .bf16) = q := by
  unfold sO
  rw [shapeCast_shapeCast q shapeCasts_O1 shapeCasts_S1x256x512_S256x512]

/-- The scaled input at an index. -/
theorem o407_apply (b : Fin 2) (r : Fin 128) (m : Fin 512) :
    o407 I (ix2 (brow b r) m) = (I.x (ix3 b r m) : EReal) * ((1 / 8 : ℝ) : EReal) := by
  show (shapeCast S256x512 (shapeCast S2x128x512 I.x shapeCasts_S2x128x512_S2x128x512) shapeCasts_S2x128x512_S256x512 : FVec Ideal S256x512 .bf16) (ix2 (brow b r) m)
    * Ideal.ofBits .bf16 0x3E00#16 = _
  rw [shapeCast_self]
  rw [shapeCast_apply I.x shapeCasts_S2x128x512_S256x512 _ (ix3 b r m) (by
    rewrite [Shape.rowMajor_val_two, Shape.rowMajor_val_three]
    show (b.val * 128 + r.val) * 512 + m.val = (b.val * 128 + r.val) * 512 + m.val
    rfl)]
  refine congrArg (fun z : EReal => (I.x (ix3 b r m) : EReal) * z) ?_
  simp [Ideal.ofBits, Ideal.ieee, -EReal.coe_mul]
  norm_num

/-- One group's share of the result. -/
def groupSum (b : Fin 2) (r : Fin 128) (j : Fin 512) (g : Fin 4) : EReal :=
  ∑ hh : Fin 4, ∑ d : Fin 64, ctxAt (o407 I) (p475 c) (I.q g) I.k I.v g b r hh d * (I.o g : FVec Ideal S256x512 .bf16) (ix2 (hd hh d) j)

/-- The stored block at an index. -/
theorem outV_apply (b : Fin 2) (r : Fin 128) (j : Fin 512) :
    outV c I (ix3 b r j) = ∑ g : Fin 4, groupSum c I b r j g := by
  unfold outV k0_pay1
  rw [shapeCast_apply (o716 c I) shapeCasts_S256x512_S2x128x512 (ix3 b r j) (ix2 (brow b r) j) (by
    rewrite [Shape.rowMajor_val_two, Shape.rowMajor_val_three]
    show (b.val * 128 + r.val) * 512 + j.val = (b.val * 128 + r.val) * 512 + j.val
    rfl)]
  rw [o716_eq, sQ_back, sO_back, addOut_apply _ _ _ I.k I.v (op c) _ _ _ _ (off16_op c) (off17_op c),
    o651_eq, sQ_back, sO_back, addOut_apply _ _ _ I.k I.v (rt c) _ _ _ _ (off16_rt c) (off17_rt c),
    o586_eq, sQ_back, sO_back, addOut_apply _ _ _ I.k I.v (lf c) _ _ _ _ (off10_eq c) (off11_eq c),
    o521_eq, addOut_apply _ _ _ I.k I.v c _ _ _ _ (off6_eq c) (off7_eq c)]
  rw [show (k0_pay88 (F := Ideal)) (ix2 (brow b r) j) = (0 : EReal) from Ideal.ofBits_zero_f32]
  exact four_groups c (groupSum c I b r j)

end Out

end Cert.KernelIdealRun

end
-- ==== Proof.RefMask.lean ====
/-
# The reference's mask, read at an index

The reference marks, with a one-bit word, the pairs of a query row and a key row that keep their score: the two rows' blocks
of 64 are the same, or the key's block is the first, or the two block numbers add up to a multiple of three. The words of
the block numbers are looked at one row at a time; what the mask makes of two block numbers is looked at once for each of
the eight by two pairs. The first key block keeps every row, so every row keeps something.
-/
module

public import proofs.«01_k».proof.Proof.Gen.ReferenceIdeal.Read
public import Idealize.ShloMosaic.Lib.ReduceAll
public import proofs.«01_k».proof.Proof.Bias

@[expose] public section

noncomputable section

namespace Cert.RefVal

open Cert.ReferenceIdeal Cert.ReferenceIdeal.Gen Cert.ReferenceIdeal.Read
open Idealize.ShloMosaic Idealize.ShloMosaic.ValueIdx
open Cert.KernelIdealRun (keeps)

/-- A query row's block number. -/
theorem qblock : ∀ i : Fin 512, (val_main_v4 (F := Ideal) (ix1 i) : BitVec 32) = BitVec.ofNat 32 (i.val / 64) := by decide +kernel

/-- A key row's block number. -/
theorem kblock : ∀ j : Fin 128, (val_main_v7 (F := Ideal) (ix1 j) : BitVec 32) = BitVec.ofNat 32 (j.val / 64) := by decide +kernel

/-- The word the mask makes of two block numbers. -/
def keepWord (a b : BitVec 32) : BitVec 1 :=
  let n : BitVec 32 := Scalar.select (IntOp.cmpi .eq 3#32 0#32) 1#32 3#32
  let s := IntOp.addi a b
  let r := IntOp.remsi .host s n
  let r' := Scalar.select (IntOp.andi (IntOp.cmpi .ne (IntOp.cmpi .slt r 0#32) (IntOp.cmpi .slt n 0#32)) (IntOp.cmpi .ne r 0#32)) (IntOp.addi r n) r
  IntOp.ori (IntOp.ori (IntOp.cmpi .eq a b) (IntOp.cmpi .eq b 0#32)) (IntOp.cmpi .eq r' 0#32)

theorem mask_word (i : Fin 512) (j : Fin 128) :
    (val_main_v22 (F := Ideal) (ix2 i j) : BitVec 1) = keepWord (val_main_v4 (F := Ideal) (ix1 i)) (val_main_v7 (F := Ideal) (ix1 j)) := by
  have e4 : idx_main_v5 (idx_main_v9 (ix2 i j)) = ix1 i := by funext a; fin_cases a; rfl
  have e4' : idx_main_v5 (idx_main_v16 (ix2 i j)) = ix1 i := by funext a; fin_cases a; rfl
  have e7 : idx_main_v8 (idx_main_v10 (ix2 i j)) = ix1 j := by funext a; fin_cases a; rfl
  have e7' : idx_main_v8 (idx_main_v14 (ix2 i j)) = ix1 j := by funext a; fin_cases a; rfl
  have e7'' : idx_main_v8 (idx_main_v17 (ix2 i j)) = ix1 j := by funext a; fin_cases a; rfl
  rw [val_main_v22_apply, val_main_v15_apply, val_main_v11_apply, val_main_v9_apply, val_main_v5_apply, e4, val_main_v10_apply, val_main_v8_apply, e7,
    val_main_v14_apply, val_main_v13_apply, val_main_v8_apply, e7', val_main_v12_apply, val_main_c_1_apply,
    val_main_v21_apply, val_main_v19_apply, val_main_call2_v12_apply, val_main_call2_v11_apply, val_main_call2_v8_apply, val_main_call2_v6_apply,
    val_main_call2_v14_apply, val_main_call2_v4_apply, val_main_v18_apply, val_main_v16_apply, val_main_v5_apply, e4', val_main_v17_apply, val_main_v8_apply, e7'',
    val_main_call2_v3_apply, val_main_call2_v10_apply, val_main_call2_v9_apply, val_main_call2_v13_apply, val_main_call2_v5_apply, val_main_call2_v7_apply,
    val_main_v20_apply]
  generalize val_main_v4 (F := Ideal) (ix1 i) = a
  generalize val_main_v7 (F := Ideal) (ix1 j) = b
  rfl

theorem keepWord_eq : ∀ (a : Fin 8) (b : Fin 2), keepWord (BitVec.ofNat 32 a.val) (BitVec.ofNat 32 b.val) = if keeps a.val b.val then 1#1 else 0#1 := by
  decide +kernel

/-- The mask at an index. -/
theorem mask_apply (i : Fin 512) (j : Fin 128) :
    (val_main_v22 (F := Ideal) (ix2 i j) : BitVec 1) = if keeps (i.val / 64) (j.val / 64) then 1#1 else 0#1 := by
  rw [mask_word, qblock, kblock]
  exact keepWord_eq ⟨i.val / 64, by omega⟩ ⟨j.val / 64, by omega⟩

/-- A fold by "or" over one-bit words that meets a 1 comes out 1. -/
theorem foldl_ori_one {ι : Type} (f : ι → BitVec 1) :
    ∀ (l : List ι) (init : BitVec 1), (init = 1#1 ∨ ∃ n ∈ l, f n = 1#1) → l.foldl (fun r n => IntOp.ori r (f n)) init = 1#1
  | [], init, h => h.elim id fun ⟨_, hn, _⟩ => nomatch hn
  | a :: l, init, h => by
    refine foldl_ori_one f l _ ?_
    have key : ∀ x y : BitVec 1, (x = 1#1 ∨ y = 1#1) → IntOp.ori x y = 1#1 := by decide
    rcases h with h | ⟨n, hn, h⟩
    · exact Or.inl (key _ _ (Or.inl h))
    · rcases List.mem_cons.1 hn with rfl | hn
      · exact Or.inl (key _ _ (Or.inr h))
      · exact Or.inr ⟨n, hn, h⟩

/-- Every row keeps something. -/
theorem row_keep (j : S512.Idx) : (val_main_v35 (F := Ideal) j : BitVec 1) = 1#1 := by
  unfold val_main_v35
  rw [Host.reduce_eq_foldl]
  refine foldl_ori_one _ _ _ (Or.inr ⟨ix2 (j 0) (0 : Fin 128), ?_, ?_⟩)
  · rw [List.mem_filter]
    refine ⟨List.mem_map.2 ⟨S512x128.rowMajor _, List.mem_finRange _, Equiv.symm_apply_apply _ _⟩, ?_⟩
    refine decide_eq_true ?_
    funext a
    fin_cases a
    rfl
  · refine (mask_apply _ _).trans (if_pos (Or.inr (Or.inl ?_)))
    decide

end Cert.RefVal

end
-- ==== Proof.RefVal.lean ====
/-
# The reference's result, read at an index

The reference's chain of operations, one after another, at a batch, a head, a query row and a key row: the score, the score
with the dropped ones at minus infinity, the greatest of a row, the weight, the weighted values, and the projection to the
output as a sum over four groups of four heads of 64 lanes.
-/
module

public import proofs.«01_k».proof.Proof.RefMask
public import Idealize.ShloMosaic.Lib.KernelVsHost

@[expose] public section

noncomputable section

namespace Cert.RefVal

open Cert.ReferenceIdeal Cert.ReferenceIdeal.Gen Cert.ReferenceIdeal.Read
open Idealize.ShloMosaic Idealize.ShloMosaic.ValueIdx
open Cert.KernelIdealRun (keeps sum_split gh)
open scoped BigOperators

abbrev Xs := (⟨S2x512x512, .bf16⟩ : BufTy).Contents (Elt Ideal)
abbrev Ws := (⟨S512x1024, .bf16⟩ : BufTy).Contents (Elt Ideal)
abbrev Ks := (⟨S2x128x16x64, .bf16⟩ : BufTy).Contents (Elt Ideal)
abbrev Os := (⟨S1024x512, .bf16⟩ : BufTy).Contents (Elt Ideal)

/-- Lane `d` of head `h` among the columns. -/
abbrev wcol (h : Fin 16) (d : Fin 64) : Fin 1024 := ⟨h.val * 64 + d.val, by have := h.isLt; have := d.isLt; omega⟩

theorem eighth_f32 : Ideal.ofBits .f32 0x3E000000#32 = ((1 / 8 : ℝ) : EReal) := by
  simp [Ideal.ofBits, Ideal.ieee, -EReal.coe_mul]
  norm_num
theorem ninf_f32 : Ideal.ofBits .f32 0xFF800000#32 = (⊥ : EReal) := by
  simp [Ideal.ofBits, Ideal.ieee]

variable (x0 : Xs) (x1 : Ws) (x2 x3 : Ks) (x4 : Os)

/-- The score of query row `i` and key row `j` under head `h` of batch `b`. -/
def score (b : Fin 2) (h : Fin 16) (i : Fin 512) (j : Fin 128) : EReal :=
  (∑ d : Fin 64, (∑ m : Fin 512, (x0 (ix3 b i m) : EReal) * (x1 (ix2 m (wcol h d)) : EReal)) * (x2 (ix4 b j h d) : EReal)) * ((1 / 8 : ℝ) : EReal)

/-- The score, at minus infinity where the mask drops it. -/
def logit (b : Fin 2) (h : Fin 16) (i : Fin 512) (j : Fin 128) : EReal :=
  if keeps (i.val / 64) (j.val / 64) then score x0 x1 x2 b h i j else ⊥

/-- The greatest of a row. -/
def rowMax (b : Fin 2) (h : Fin 16) (i : Fin 512) : EReal := Finset.univ.fold max (⊥ : EReal) (logit x0 x1 x2 b h i)

/-- The weight. -/
def weight (b : Fin 2) (h : Fin 16) (i : Fin 512) (j : Fin 128) : EReal :=
  Ideal.div (Ideal.exp (logit x0 x1 x2 b h i j - rowMax x0 x1 x2 b h i)) (∑ j', Ideal.exp (logit x0 x1 x2 b h i j' - rowMax x0 x1 x2 b h i))

theorem v2_apply (b : Fin 2) (i : Fin 512) (h : Fin 16) (d : Fin 64) :
    (val_main_v2 (F := Ideal) x0 x1 (ix4 b i h d) : EReal) = ∑ m : Fin 512, (x0 (ix3 b i m) : EReal) * (x1 (ix2 m (wcol h d)) : EReal) := by
  have hb := b.isLt; have hi := i.isLt; have hh := h.isLt; have hd := d.isLt
  have e : idx_main_v2 (ix4 b i h d) = ix3 b i (wcol h d) := by
    funext a
    fin_cases a
    · exact Fin.ext (show (((b.val * 512 + i.val) * 16 + h.val) * 64 + d.val) / 524288 = b.val by omega)
    · exact Fin.ext (show (((b.val * 512 + i.val) * 16 + h.val) * 64 + d.val) / 1024 % 512 = i.val by omega)
    · exact Fin.ext (show (((b.val * 512 + i.val) * 16 + h.val) * 64 + d.val) % 1024 = h.val * 64 + d.val by omega)
  rw [val_main_v2_apply, e, val_main_v1_apply]
  refine (val_main_v0_apply x0 x1 (ix3 b i (wcol h d))).trans (Finset.sum_congr rfl fun m _ => ?_)
  rw [show lidx_main_v0 (ix3 b i (wcol h d)) m = ix3 b i m from by funext a; fin_cases a <;> rfl,
    show ridx_main_v0 (ix3 b i (wcol h d)) m = ix2 m (wcol h d) from by funext a; fin_cases a <;> rfl]

theorem v27_apply (b : Fin 2) (h : Fin 16) (i : Fin 512) (j : Fin 128) :
    (val_main_v27 (F := Ideal) x0 x1 x2 (ix4 b h i j) : EReal) = score x0 x1 x2 b h i j := by
  rw [val_main_v27_apply, val_main_v25_apply, val_main_v24_apply, val_main_v26_apply, val_main_cst_apply]
  refine (congrArg₂ (fun y z : EReal => y * z) ?_ eighth_f32 :)
  refine (val_main_v23_apply x0 x1 x2 (ix4 b h i j)).trans (Finset.sum_congr rfl fun d _ => ?_)
  rw [show lidx_main_v23 (ix4 b h i j) d = ix4 b i h d from by funext a; fin_cases a <;> rfl,
    show ridx_main_v23 (ix4 b h i j) d = ix4 b j h d from by funext a; fin_cases a <;> rfl, v2_apply]

theorem v29_apply (b : Fin 2) (h : Fin 16) (i : Fin 512) (j : Fin 128) :
    (val_main_v29 (F := Ideal) x0 x1 x2 (ix4 b h i j) : EReal) = logit x0 x1 x2 b h i j := by
  rw [val_main_v29_apply, val_main_call3_v1_apply, val_main_v28_apply, val_main_call3_v2_apply, val_main_call3_v0_apply, val_main_cst_4_apply, v27_apply,
    show idx_main_v28 (idx_main_call3_v1 (ix4 b h i j)) = ix2 i j from by funext a; fin_cases a <;> rfl, mask_apply,
    show (FloatOps.ofBits .f32 0xFF800000#32 : Ideal .f32) = (⊥ : EReal) from ninf_f32]
  unfold logit
  by_cases hk : keeps (i.val / 64) (j.val / 64)
  · rw [if_pos hk, if_pos hk]; rfl
  · rw [if_neg hk, if_neg hk]; rfl

theorem v30_apply (b : Fin 2) (h : Fin 16) (i : Fin 512) :
    (val_main_v30 (F := Ideal) x0 x1 x2 (ix3 b h i) : EReal) = rowMax x0 x1 x2 b h i := by
  unfold val_main_v30
  have hr : S2x16x512x128.Reduces [3] S2x16x512 := by decide
  generalize hv : val_main_v29 (F := Ideal) x0 x1 x2 = v
  have e := hostReduce_maximumf_eq_multiReduction (F := Ideal) (φ := .f32) (s := S2x16x512x128) (t := S2x16x512) (u := S_) v 0xFF800000#32 reducesTo_S2x16x512x128_S2x16x512_d3 h_S_ hr
    (by decide) (by decide)
  refine (congrFun e (ix3 b h i)).trans ?_
  rw [Ideal.multiReduction_maximumf_single]
  refine (congrArg₂ (fun (e : EReal) (f : Fin 128 → EReal) => Finset.univ.fold max e f) ninf_f32 (funext fun j => ?_) :)
  refine Eq.trans ?_ (v29_apply x0 x1 x2 b h i j)
  rw [hv]
  show v (hr.lift (ix3 b h i) j) = v (ix4 b h i j)
  refine congrArg v ?_
  funext a
  fin_cases a <;> rfl

theorem v34_apply (b : Fin 2) (h : Fin 16) (i : Fin 512) (j : Fin 128) :
    (val_main_v34 (F := Ideal) x0 x1 x2 (ix4 b h i j) : EReal) = Ideal.exp (logit x0 x1 x2 b h i j - rowMax x0 x1 x2 b h i) := by
  rw [val_main_v34_apply, val_main_v33_apply, val_main_v32_apply, val_main_v31_apply, v29_apply,
    show idx_main_v31 (idx_main_v32 (ix4 b h i j)) = ix3 b h i from by funext a; fin_cases a <;> rfl, v30_apply]
  rfl

theorem v43_apply (b : Fin 2) (h : Fin 16) (i : Fin 512) (j : Fin 128) :
    (val_main_v43 (F := Ideal) x0 x1 x2 (ix4 b h i j) : EReal) = weight x0 x1 x2 b h i j := by
  rw [val_main_v43_apply, val_main_call5_v1_apply, val_main_v42_apply, row_keep]
  show (val_main_v41 (F := Ideal) x0 x1 x2 (ix4 b h i j) : EReal) = _
  rw [val_main_v41_apply, val_main_v40_apply, val_main_v39_apply, val_main_call4_v1_apply, val_main_v36_apply, row_keep]
  show Ideal.div (val_main_v34 (F := Ideal) x0 x1 x2 (ix4 b h i j)) (val_main_v38 (F := Ideal) x0 x1 x2 (idx_main_v40 (ix4 b h i j))) = _
  rw [val_main_v38_apply, show idx_main_v38 (idx_main_v40 (ix4 b h i j)) = ix3 b h i from by funext a; fin_cases a <;> rfl, v34_apply]
  unfold weight
  refine congrArg (Ideal.div _) ?_
  refine (val_main_v37_apply x0 x1 x2 (ix3 b h i)).trans ?_
  rw [show (val_main_cst_7 (F := Ideal) (Shape.Idx.first h_S_) : EReal) = 0 from Ideal.ofBits_zero_f32]
  refine (zero_add _).trans (Finset.sum_congr rfl fun j' _ => ?_)
  rw [show idx_main_v37 (ix3 b h i) j' = ix4 b h i j' from by funext a; fin_cases a <;> rfl, v34_apply]

/-- The weighted values. -/
def refCtx (b : Fin 2) (i : Fin 512) (h : Fin 16) (d : Fin 64) : EReal :=
  ∑ j : Fin 128, (x3 (ix4 b j h d) : EReal) * weight x0 x1 x2 b h i j

theorem v46_apply (b : Fin 2) (i : Fin 512) (h : Fin 16) (d : Fin 64) :
    (val_main_v46 (F := Ideal) x0 x1 x2 x3 (ix4 b i h d) : EReal) = refCtx x0 x1 x2 x3 b i h d := by
  rw [val_main_v46_apply, show idx_main_v46 (ix4 b i h d) = ix4 b h d i from by funext a; fin_cases a <;> rfl]
  refine (val_main_v45_apply x0 x1 x2 x3 (ix4 b h d i)).trans (Finset.sum_congr rfl fun j _ => ?_)
  rw [show lidx_main_v45 (ix4 b h d i) j = ix4 b j h d from by funext a; fin_cases a <;> rfl,
    show ridx_main_v45 (ix4 b h d i) j = ix4 b h i j from by funext a; fin_cases a <;> rfl, v43_apply]
  rfl

theorem v47_apply (b : Fin 2) (i : Fin 512) (h : Fin 16) (d : Fin 64) :
    (val_main_v47 (F := Ideal) x0 x1 x2 x3 (ix3 b i (wcol h d)) : EReal) = refCtx x0 x1 x2 x3 b i h d := by
  have hb := b.isLt; have hi := i.isLt; have hh := h.isLt; have hd := d.isLt
  have e : idx_main_v47 (ix3 b i (wcol h d)) = ix4 b i h d := by
    funext a
    fin_cases a
    · exact Fin.ext (show ((b.val * 512 + i.val) * 1024 + (h.val * 64 + d.val)) / 524288 = b.val by omega)
    · exact Fin.ext (show ((b.val * 512 + i.val) * 1024 + (h.val * 64 + d.val)) / 1024 % 512 = i.val by omega)
    · exact Fin.ext (show ((b.val * 512 + i.val) * 1024 + (h.val * 64 + d.val)) / 64 % 16 = h.val by omega)
    · exact Fin.ext (show ((b.val * 512 + i.val) * 1024 + (h.val * 64 + d.val)) % 64 = d.val by omega)
  rw [val_main_v47_apply, e, v46_apply]

/-- The reference's result: over groups, heads of a group and lanes. -/
theorem v49_apply (b : Fin 2) (i : Fin 512) (n : Fin 512) :
    (val_main_v49 (F := Ideal) x0 x1 x2 x3 x4 (ix3 b i n) : EReal)
      = ∑ g : Fin 4, ∑ hh : Fin 4, ∑ d : Fin 64, refCtx x0 x1 x2 x3 b i (gh g hh) d * (x4 (ix2 (wcol (gh g hh) d) n) : EReal) := by
  refine (val_main_v49_apply x0 x1 x2 x3 x4 (ix3 b i n)).trans ?_
  rw [sum_split 16 64 1024 rfl (fun a b => by have := a.isLt; have := b.isLt; omega),
    sum_split 4 4 16 rfl (fun a b => by have := a.isLt; have := b.isLt; omega)]
  refine Finset.sum_congr rfl fun g _ => Finset.sum_congr rfl fun hh _ => Finset.sum_congr rfl fun d _ => ?_
  show (val_main_v47 (F := Ideal) x0 x1 x2 x3 (lidx_main_v49 (ix3 b i n) (wcol (gh g hh) d)) : EReal) * (val_main_v48 (F := Ideal) x4 (ridx_main_v49 (ix3 b i n) (wcol (gh g hh) d)) : EReal) = _
  rw [show lidx_main_v49 (ix3 b i n) (wcol (gh g hh) d) = ix3 b i (wcol (gh g hh) d) from by funext a; fin_cases a <;> rfl,
    show ridx_main_v49 (ix3 b i n) (wcol (gh g hh) d) = ix2 (wcol (gh g hh) d) n from by funext a; fin_cases a <;> rfl, v47_apply]
  rfl

end Cert.RefVal

end
-- ==== Proof.Softmax.lean ====
/-
# The two ways of weighing a row

A row of real scores, some of which are dropped. The kernel takes exponentials of the scores as they are, a dropped one's
being zero, and divides by their sum; the reference first takes the greatest kept score off every score. Both divide a real
number by a real number that is not zero, and the factor the subtraction brings in cancels.
-/
module

public import Idealize.ShloMosaic.PureOps.Ideal
public import Idealize.ShloMosaic.PureOps.Ideal.Laws

@[expose] public section

noncomputable section

namespace Cert.Weigh

open Idealize.ShloMosaic
open scoped BigOperators

variable {n : ℕ} (s : Fin n → ℝ) (k : Fin n → Prop) [DecidablePred k]

/-- A score, or minus infinity where it is dropped. -/
abbrev scr (t : Fin n) : EReal := if k t then ((s t : ℝ) : EReal) else ⊥

theorem add_mask (t : Fin n) : ((s t : ℝ) : EReal) + (if k t then (0 : EReal) else ⊥) = scr s k t := by
  by_cases h : k t
  · rw [if_pos h, scr, if_pos h, add_zero]
  · rw [if_neg h, scr, if_neg h, EReal.add_bot]

theorem exp_scr (t : Fin n) : Ideal.exp (scr s k t) = ((if k t then Real.exp (s t) else 0 : ℝ) : EReal) := by
  by_cases h : k t
  · rw [scr, if_pos h, if_pos h, Ideal.exp_coe]
  · rw [scr, if_neg h, if_neg h, Ideal.exp_bot, EReal.coe_zero]

theorem exp_scr_sub (μ : ℝ) (t : Fin n) :
    Ideal.exp (scr s k t - (μ : EReal)) = (((if k t then Real.exp (s t) else 0) * Real.exp (-μ) : ℝ) : EReal) := by
  by_cases h : k t
  · rw [scr, if_pos h, if_pos h, ← EReal.coe_sub, Ideal.exp_coe, ← Real.exp_add, sub_eq_add_neg]
  · rw [scr, if_neg h, if_neg h, EReal.bot_sub, Ideal.exp_bot, zero_mul, EReal.coe_zero]

/-- The greatest of a row is a real number when something is kept. -/
theorem max_real (h : ∃ t, k t) : ∃ μ : ℝ, Finset.univ.fold max (⊥ : EReal) (scr s k) = (μ : EReal) := by
  obtain ⟨t0, h0⟩ := h
  have hne_top : Finset.univ.fold max (⊥ : EReal) (scr s k) ≠ ⊤ := by
    refine ne_of_lt ((Finset.fold_max_lt _).2 ⟨bot_lt_top, fun t _ => ?_⟩)
    unfold scr
    split
    · exact EReal.coe_lt_top _
    · exact bot_lt_top
  have hne_bot : Finset.univ.fold max (⊥ : EReal) (scr s k) ≠ ⊥ := by
    refine ne_of_gt ((Finset.lt_fold_max _).2 (Or.inr ⟨t0, Finset.mem_univ _, ?_⟩))
    rw [scr, if_pos h0]
    exact EReal.bot_lt_coe _
  exact ⟨_, (EReal.coe_toReal hne_top hne_bot).symm⟩

theorem coe_sum {m : ℕ} (f : Fin m → ℝ) : ∑ t, ((f t : ℝ) : EReal) = ((∑ t, f t : ℝ) : EReal) :=
  (map_sum (⟨⟨fun x : ℝ => (x : EReal), EReal.coe_zero⟩, EReal.coe_add⟩ : ℝ →+ EReal) f Finset.univ).symm

/-- The two weights are equal. -/
theorem weights (h : ∃ t, k t) (M : EReal) (hM : M = Finset.univ.fold max (⊥ : EReal) (scr s k)) (t : Fin n) :
    Ideal.div (Ideal.exp (((s t : ℝ) : EReal) + (if k t then (0 : EReal) else ⊥)))
        (∑ t', Ideal.exp (((s t' : ℝ) : EReal) + (if k t' then (0 : EReal) else ⊥)))
      = Ideal.div (Ideal.exp (scr s k t - M)) (∑ t', Ideal.exp (scr s k t' - M)) := by
  obtain ⟨μ, hμ⟩ := max_real s k h
  rw [hM, hμ]
  simp only [add_mask, exp_scr, exp_scr_sub, coe_sum]
  have hS : (0 : ℝ) < ∑ t', (if k t' then Real.exp (s t') else 0) := by
    obtain ⟨t0, h0⟩ := h
    refine Finset.sum_pos' (fun t _ => ?_) ⟨t0, Finset.mem_univ _, ?_⟩
    · split
      · exact (Real.exp_pos _).le
      · exact le_refl _
    · rw [if_pos h0]; exact Real.exp_pos _
  have hE : (0 : ℝ) < Real.exp (-μ) := Real.exp_pos _
  rw [← Finset.sum_mul, Ideal.div_coe hS.ne', Ideal.div_coe (mul_pos hS hE).ne', ← EReal.coe_mul, ← EReal.coe_mul]
  congr 1
  field_simp

end Cert.Weigh

end
-- ==== Proof.Meet.lean ====
/-
# The two results, element by element

With the scores' operands real, the kernel's scores are the reference's: the factor of an eighth the kernel puts on the input
comes out of both sums. A device's row `r` is row `128 c + r` of the whole, so the masks agree; the two weights are equal; a
group's columns of the query weights and rows of the output weights are its device's part.
-/
module

public import proofs.«01_k».proof.Proof.OutVal
public import proofs.«01_k».proof.Proof.RefVal
public import proofs.«01_k».proof.Proof.Softmax

@[expose] public section

noncomputable section

namespace Cert.Meet

open Idealize.ShloMosaic Idealize.ShloMosaic.ValueIdx
open Cert.KernelIdealRun Cert.RefVal Cert.Weigh
open scoped BigOperators

/-- Row `r` of device `c`'s part, among all rows. -/
abbrev grow (c : Fin 4) (r : Fin 128) : Fin 512 := ⟨c.val * 128 + r.val, by have := c.isLt; have := r.isLt; omega⟩
/-- Column `n` of group `g`, among all columns. -/
abbrev gcol (g : Fin 4) (n : Fin 256) : Fin 1024 := ⟨g.val * 256 + n.val, by have := g.isLt; have := n.isLt; omega⟩

theorem gcol_hd (g hh : Fin 4) (d : Fin 64) : gcol g (hd hh d) = wcol (gh g hh) d :=
  Fin.ext (show g.val * 256 + (hh.val * 64 + d.val) = (g.val * 4 + hh.val) * 64 + d.val by omega)

/-- The kernel's score of real operands. -/
theorem score_kernel {n k : ℕ} (x : Fin n → ℝ) (w : Fin n → Fin k → ℝ) (y : Fin k → ℝ) :
    (∑ d, (∑ m, ((x m : EReal) * ((1 / 8 : ℝ) : EReal)) * (w m d : EReal)) * (y d : EReal)) = (((∑ d, (∑ m, x m * w m d) * y d) * (1 / 8) : ℝ) : EReal) := by
  simp only [← EReal.coe_mul, coe_sum]
  refine congrArg (fun z : ℝ => (z : EReal)) ?_
  rw [Finset.sum_mul]
  refine Finset.sum_congr rfl fun d _ => ?_
  have e : ∑ m, x m * (1 / 8) * w m d = (∑ m, x m * w m d) * (1 / 8) := by
    rw [Finset.sum_mul]
    exact Finset.sum_congr rfl fun m _ => by ring
  rw [e]; ring

/-- The reference's score of real operands. -/
theorem score_ref {n k : ℕ} (x : Fin n → ℝ) (w : Fin n → Fin k → ℝ) (y : Fin k → ℝ) :
    (∑ d, (∑ m, (x m : EReal) * (w m d : EReal)) * (y d : EReal)) * ((1 / 8 : ℝ) : EReal) = (((∑ d, (∑ m, x m * w m d) * y d) * (1 / 8) : ℝ) : EReal) := by
  simp only [← EReal.coe_mul, coe_sum]

variable (X : Xs) (W : Ws) (K V : Ks) (O : Os)
variable (hX : ∀ i, ∃ x : ℝ, (X i : EReal) = x) (hW : ∀ i, ∃ x : ℝ, (W i : EReal) = x) (hK : ∀ i, ∃ x : ℝ, (K i : EReal) = x)
variable (c : Dev Cert.KernelIdeal.nD) (I : Ins Ideal)
variable (ix : ∀ (b : Fin 2) (r : Fin 128) (m : Fin 512), (I.x (ix3 b r m) : EReal) = X (ix3 b (grow c r) m))
variable (iq : ∀ (g : Fin 4) (m : Fin 512) (n : Fin 256), ((I.q g : FVec Ideal Cert.KernelIdeal.S512x256 .bf16) (ix2 m n) : EReal) = W (ix2 m (gcol g n)))
variable (io : ∀ (g : Fin 4) (n : Fin 256) (j : Fin 512), ((I.o g : FVec Ideal Cert.KernelIdeal.S256x512 .bf16) (ix2 n j) : EReal) = O (ix2 (gcol g n) j))
variable (ik : I.k = K) (iv : I.v = V)

include hX hW hK ix iq ik iv in
theorem ctx_eq (g : Fin 4) (b : Fin 2) (r : Fin 128) (hh : Fin 4) (d : Fin 64) :
    ctxAt (o407 I) (p475 c) (I.q g) I.k I.v g b r hh d = refCtx X W K V b (grow c r) (gh g hh) d := by
  choose xr hxr using hX
  choose wr hwr using hW
  choose kr hkr using hK
  have hrow : (grow c r).val / 64 = 2 * c.val + r.val / 64 := by
    show (c.val * 128 + r.val) / 64 = _
    omega
  let s : Fin 128 → ℝ := fun t => (∑ d' : Fin 64, (∑ m : Fin 512, xr (ix3 b (grow c r) m) * wr (ix2 m (wcol (gh g hh) d'))) * kr (ix4 b t (gh g hh) d')) * (1 / 8)
  let kp : Fin 128 → Prop := fun t => keeps (2 * c.val + r.val / 64) (t.val / 64)
  have hsc : ∀ t, score X W K b (gh g hh) (grow c r) t = ((s t : ℝ) : EReal) := fun t => by
    unfold score
    simp only [hxr, hwr, hkr]
    exact score_ref _ _ _
  have hlg : logit X W K b (gh g hh) (grow c r) = scr s kp := funext fun t => by
    unfold logit
    rw [hrow, hsc]
  have hex : ∀ t, (∑ d' : Fin 64, (∑ m : Fin 512, o407 I (ix2 (brow b r) m) * (I.q g : FVec Ideal Cert.KernelIdeal.S512x256 .bf16) (ix2 m (hd hh d')))
      * (I.k : Vec Ideal Cert.KernelIdeal.S2x128x16x64 .bf16) (ix4 (n0 := 2) (n1 := 128) (n2 := 16) (n3 := 64) b t (gh g hh) d')) + p475 (F := Ideal) c (ix2 r (kt hh t))
      = ((s t : ℝ) : EReal) + (if kp t then (0 : EReal) else ⊥) := fun t => by
    rw [p475_apply]
    refine congrArg (fun z : EReal => z + _) ?_
    simp only [o407_apply, ix, iq, ik, gcol_hd, hxr, hwr, hkr]
    exact score_kernel _ _ _
  unfold ctxAt refCtx
  simp only [hex]
  refine Finset.sum_congr rfl fun t _ => ?_
  rw [weights s kp ⟨0, Or.inr (Or.inl rfl)⟩ (rowMax X W K b (gh g hh) (grow c r)) (by unfold rowMax; rw [hlg]) t, iv, mul_comm]
  unfold weight
  rw [hlg]

include hX hW hK ix iq io ik iv in
theorem out_eq (b : Fin 2) (r : Fin 128) (j : Fin 512) :
    outV c I (ix3 b r j) = (Cert.ReferenceIdeal.Read.val_main_v49 (F := Ideal) X W K V O (ix3 b (grow c r) j) : EReal) := by
  rw [outV_apply, Cert.RefVal.v49_apply]
  refine Finset.sum_congr rfl fun g _ => ?_
  unfold groupSum
  refine Finset.sum_congr rfl fun hh _ => Finset.sum_congr rfl fun d _ => ?_
  rw [ctx_eq X W K V hX hW hK c I ix iq ik iv, io, gcol_hd]

end Cert.Meet

end
-- ==== Proof.Algebraic.lean ====
/-
# The kernel computes the reference's result

Every device's arguments are its parts of the whole arrays, and the precondition makes the whole input, query weights and keys
real; so what device `c` stores is rows `128 c` to `128 c + 127` of what the reference computes.
-/
module

public import proofs.«01_k».proof.Defs
public import proofs.«01_k».proof.Proof.Final
public import proofs.«01_k».proof.Proof.Finite
public import proofs.«01_k».proof.Proof.Meet

@[expose] public section

noncomputable section

namespace Cert.Meet

open Idealize.ShloMosaic Idealize.ShloMosaic.ValueIdx Idealize.ShloMosaic.TcCoe Idealize.SL.Sem
open Cert.KernelIdealRun Cert.RefVal

/-! ### A part's element in the whole -/

theorem rows_at {α : Type} (v : (⟨3, ![2, 512, 512]⟩ : Shape).Idx → α) (c : Fin 4) (b : Fin 2) (r : Fin 128) (j : Fin 512) :
    Layout.block ⟨3, ![2, 128, 512]⟩ ⟨3, ![2, 512, 512]⟩ 1 4 c v (by decide) (ix3 b r j) = v (ix3 b (grow c r) j) := by
  rw [Layout.block_apply]
  refine congrArg v ?_
  funext a
  fin_cases a <;> exact Fin.ext (Layout.Tiles.idx_val _ _ _ _)

theorem cols_at {α : Type} (v : (⟨2, ![512, 1024]⟩ : Shape).Idx → α) (g : Fin 4) (m : Fin 512) (n : Fin 256) :
    Layout.block ⟨2, ![512, 256]⟩ ⟨2, ![512, 1024]⟩ 1 4 g v (by decide) (ix2 m n) = v (ix2 m (gcol g n)) := by
  rw [Layout.block_apply]
  refine congrArg v ?_
  funext a
  fin_cases a <;> exact Fin.ext (Layout.Tiles.idx_val _ _ _ _)

theorem tops_at {α : Type} (v : (⟨2, ![1024, 512]⟩ : Shape).Idx → α) (g : Fin 4) (n : Fin 256) (j : Fin 512) :
    Layout.block ⟨2, ![256, 512]⟩ ⟨2, ![1024, 512]⟩ 0 4 g v (by decide) (ix2 n j) = v (ix2 (gcol g n) j) := by
  rw [Layout.block_apply]
  refine congrArg v ?_
  funext a
  fin_cases a <;> exact Fin.ext (Layout.Tiles.idx_val _ _ _ _)

/-- A row of the whole is a row of some device's part. -/
theorem exists_row (i : Fin 512) : ∃ (c : Fin 4) (r : Fin 128), grow c r = i :=
  ⟨⟨i.val / 128, by have := i.isLt; omega⟩, ⟨i.val % 128, by omega⟩, Fin.ext (show i.val / 128 * 128 + i.val % 128 = i.val by omega)⟩
theorem exists_col (n : Fin 1024) : ∃ (g : Fin 4) (k : Fin 256), gcol g k = n :=
  ⟨⟨n.val / 256, by have := n.isLt; omega⟩, ⟨n.val % 256, by omega⟩, Fin.ext (show n.val / 256 * 256 + n.val % 256 = n.val by omega)⟩

theorem algebraic : Cert.algebraic_KernelIdeal_ReferenceIdeal_pre_finite_scores_inputs_KernelIdeal
    (hKernelIdeal := Cert.KernelIdeal.Gen.facts) (hReferenceIdeal := Cert.ReferenceIdeal.Gen.facts) (hPre_finite_scores_inputs_KernelIdeal := Cert.Finite.facts) := by
  intro m g m' g' hpre hag
  have hre := fun c => Cert.Finite.reals (hF := Cert.Finite.facts) _ _ _ _ _ (hpre c)
  have hX : ∀ i, ∃ x : ℝ, @Eq EReal ((m' (((0 : Dev Cert.ReferenceIdeal.nD).tc : Thread Cert.ReferenceIdeal.nD Cert.ReferenceIdeal.τ).loc Cert.ReferenceIdeal.main_arg0) : Xs) i) ((x : ℝ) : EReal) := by
    intro i
    obtain ⟨c, r, hr⟩ := exists_row (i 1)
    obtain ⟨x, hx⟩ := (hre c).1 (ix3 (i 0) r (i 2))
    refine ⟨x, Eq.trans ?_ hx⟩
    rw [(hag c).1]
    refine Eq.trans ?_ (rows_at _ c (i 0) r (i 2)).symm
    rw [hr]
    exact congrArg _ (eq_ix3 i)
  have hW : ∀ i, ∃ x : ℝ, @Eq EReal ((m' (((0 : Dev Cert.ReferenceIdeal.nD).tc : Thread Cert.ReferenceIdeal.nD Cert.ReferenceIdeal.τ).loc Cert.ReferenceIdeal.main_arg1) : Ws) i) ((x : ℝ) : EReal) := by
    intro i
    obtain ⟨c, n, hn⟩ := exists_col (i 1)
    obtain ⟨x, hx⟩ := (hre c).2.1 (ix2 (i 0) n)
    refine ⟨x, Eq.trans ?_ hx⟩
    rw [(hag c).2.1]
    refine Eq.trans ?_ (cols_at _ c (i 0) n).symm
    rw [hn]
    exact congrArg _ (eq_ix2 i)
  have hK : ∀ i, ∃ x : ℝ, @Eq EReal ((m' (((0 : Dev Cert.ReferenceIdeal.nD).tc : Thread Cert.ReferenceIdeal.nD Cert.ReferenceIdeal.τ).loc Cert.ReferenceIdeal.main_arg2) : Ks) i) ((x : ℝ) : EReal) := by
    intro i
    obtain ⟨x, hx⟩ := (hre 0).2.2 i
    exact ⟨x, (congrFun (hag 0).2.2.1 i).symm.trans hx⟩
  have hout : ∀ c, outV c (ins m g c) = Layout.block ⟨3, ![2, 128, 512]⟩ ⟨3, ![2, 512, 512]⟩ 1 4 c (Cert.ReferenceIdeal.Value.res_main_v49 m' (0 : Dev Cert.ReferenceIdeal.nD)) := by
    intro c
    funext i
    rw [eq_ix3 i, Cert.ReferenceIdeal.Read.val_main_v49_eq]
    refine Eq.trans ?_ (rows_at _ c (i 0) (i 1) (i 2)).symm
    refine out_eq _ _ _ _ _ hX hW hK c (ins m g c) (fun b r k => ?_) (fun d k n => ?_) (fun d n k => ?_) ?_ ?_ (i 0) (i 1) (i 2)
    · rw [ins_x]
      exact (congrFun (hag c).1 _).trans (rows_at _ c b r k)
    · rw [ins_q]
      exact (congrFun (hag d).2.1 _).trans (cols_at _ d k n)
    · rw [ins_o]
      exact (congrFun (hag d).2.2.2.2 _).trans (tops_at _ d n k)
    · rw [ins_k]
      exact (hag c).2.2.1
    · rw [ins_v]
      exact (hag c).2.2.2.1
  refine ⟨Cert.ReferenceIdeal.Value.res_main_v49 m' (0 : Dev Cert.ReferenceIdeal.nD), ?_, ?_⟩
  · exact (θ_run (Cert.KernelIdeal.defs (F := Ideal)) _ _).mono (fun r (h : QC m g r ∧ r.2.sem = fun _ => 0) c => ⟨((h.1 c (5 : Fin 6)).trans (finalA_out m g c)).trans (hout c),
      (h.1 c (0 : Fin 6)).trans (finalA_in m g c 0 (by decide)),
      (h.1 c (1 : Fin 6)).trans (finalA_in m g c 1 (by decide)),
      (h.1 c (2 : Fin 6)).trans (finalA_in m g c 2 (by decide)),
      (h.1 c (3 : Fin 6)).trans (finalA_in m g c 3 (by decide)),
      (h.1 c (4 : Fin 6)).trans (finalA_in m g c 4 (by decide))⟩) (run_main (F := Ideal) m g)
  · exact (θ_run (Cert.ReferenceIdeal.defs (F := Ideal)) _ _).mono (fun r h => h 0) (Cert.ReferenceIdeal.Value.run m' g')

end Cert.Meet

end
-- ==== Proof.lean ====
/-
# The claims of this certificate

The kernel's frames at words and at extended reals, the reference's frame, the named constant, and that over the extended
reals the kernel computes the reference's result.
-/
module

public import proofs.«01_k».proof.Defs
public import proofs.«01_k».proof.Proof.Gen.ReferenceIdeal
public import proofs.«01_k».proof.Proof.Gen.ReferenceIdeal.Run
public import proofs.«01_k».proof.Proof.Gen.ReferenceIdeal.Read
public import proofs.«01_k».proof.Proof.Frame
public import proofs.«01_k».proof.Proof.RefFrame
public import proofs.«01_k».proof.Proof.Bits.Frame
public import proofs.«01_k».proof.Proof.Algebraic

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Finite.facts, Cert.Finite.facts',
    fun m g _ => Cert.KernelRun.frame m g,
    fun m g _ => Cert.KernelIdealRun.frame m g,
    fun m g _ => Cert.KernelIdealRun.frame m g,
    fun m g _ => Cert.ReferenceIdealRun.frame m g,
    fun m g _ => Cert.ReferenceIdealRun.frame m g,
    IdealRules.named_const.statement Cert.KernelIdeal.κ "mask" .f32 0xCE6E6B28#32 ⊥ rfl,
    Cert.Meet.algebraic⟩

end Cert.Proof

end
